-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_grad [hPre_finite_grad : Cert.Pre_finite_grad.Facts] (m : (ℓ : Loc Cert.KernelIdeal.nD Cert.KernelIdeal.τ Cert.KernelIdeal.sig) → Buf (Elt Ideal) ℓ) : Prop :=
  ∀ c : Dev Cert.KernelIdeal.nD,
    (Cert.Pre_finite_grad.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_grad [hPre_finite_grad : Cert.Pre_finite_grad.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_grad.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_grad [hKernelIdeal : Cert.KernelIdeal.Facts] [hPre_finite_grad : Cert.Pre_finite_grad.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_grad m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_grad [hReferenceIdeal : Cert.ReferenceIdeal.Facts] [hPre_finite_grad : Cert.Pre_finite_grad.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_grad m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  IdealRules.named_const.Statement Cert.KernelIdeal.κ "gelu_kc" .f32 0x3D122279#32 (((Real.sqrt (2 * Real.pi⁻¹)) * (8943 / 200000) : ℝ) : EReal)
  ∧ IdealRules.named_const.Statement Cert.KernelIdeal.κ "gelu_k" .f32 0x3F4C422A#32 ((Real.sqrt (2 * Real.pi⁻¹) : ℝ) : EReal)

def preserves_Reference_ReferenceIdeal : Prop :=
  IdealRules.named_const.Statement Cert.ReferenceIdeal.κ "gelu_k" .f32 0x3F4C422A#32 ((Real.sqrt (2 * Real.pi⁻¹) : ℝ) : EReal)
  ∧ IdealRules.named_const.Statement Cert.ReferenceIdeal.κ "gelu_c" .f32 0x3D372713#32 ((8943 / 200000 : ℝ) : EReal)
  ∧ IdealRules.named_const.Statement Cert.ReferenceIdeal.κ "gelu_3c" .f32 0x3E095D4F#32 ((26829 / 200000 : ℝ) : EReal)

def algebraic_KernelIdeal_ReferenceIdeal_pre_finite_grad [hKernelIdeal : Cert.KernelIdeal.Facts] [hReferenceIdeal : Cert.ReferenceIdeal.Facts] [hPre_finite_grad : Cert.Pre_finite_grad.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_grad m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_finite_grad : Cert.Pre_finite_grad.Facts),
    quiescent_Kernel (hKernel := hKernel)
    ∧ quiescent_KernelIdeal (hKernelIdeal := hKernelIdeal)
    ∧ quiescent_KernelIdeal_pre_finite_grad (hKernelIdeal := hKernelIdeal) (hPre_finite_grad := hPre_finite_grad)
    ∧ quiescent_ReferenceIdeal (hReferenceIdeal := hReferenceIdeal)
    ∧ quiescent_ReferenceIdeal_pre_finite_grad (hReferenceIdeal := hReferenceIdeal) (hPre_finite_grad := hPre_finite_grad)
    ∧ quiescent_Reference (hReference := hReference)
    ∧ preserves_Kernel_KernelIdeal
    ∧ preserves_Reference_ReferenceIdeal
    ∧ algebraic_KernelIdeal_ReferenceIdeal_pre_finite_grad (hKernelIdeal := hKernelIdeal) (hReferenceIdeal := hReferenceIdeal) (hPre_finite_grad := hPre_finite_grad)
-- ==== Pre_finite_grad.lean ====
abbrev S256x24576 : Shape := ⟨2, ![256, 24576]⟩
abbrev S256x192 : Shape := ⟨2, ![256, 192]⟩
abbrev S_ : Shape := ⟨0, ![]⟩

class Facts : Prop where
  bcast_S_S256x24576 : S_.BroadcastsInDim S256x24576 (![] : Fin 0 → Fin S256x24576.rank)
  reducesTo_S256x24576_S_d0_1 : S256x24576.ReducesTo [0, 1] S_
  h_S_ : 0 < S_.numel

variable [Facts]

def fn {F : FTy → Type} [FloatOps F] (main_arg0 : FVec F S256x24576 .bf16) (main_arg1 : FVec F S256x24576 .fp8e4m3) (main_arg2 : FVec F S256x192 .f32) : IVec S_ 1 :=
  let main_v0 : FVec F S256x24576 .bf16 := Host.absf main_arg0
  let main_cst : FVec F S_ .bf16 := constant S_ .bf16 0x7F7F#16
  let main_v1 : FVec F S256x24576 .bf16 := broadcastInDim S256x24576 ![] bcast_S_S256x24576 main_cst
  let main_v2 : IVec S256x24576 1 := cmpf .ole main_v0 main_v1
  let main_c : IVec S_ 1 := constantI S_ 1 1#1
  let main_v3 : IVec S_ 1 := (fun x v => Host.reduce IntOp.andi x v reducesTo_S256x24576_S_d0_1 h_S_) main_v2 main_c
  main_v3
-- ==== Kernel.lean ====
abbrev S256x24576 : Shape := ⟨2, ![256, 24576]⟩
abbrev S256x192 : Shape := ⟨2, ![256, 192]⟩
abbrev S256x24x8 : Shape := ⟨3, ![256, 24, 8]⟩
abbrev S24x256x8 : Shape := ⟨3, ![24, 256, 8]⟩
abbrev S1x24576 : Shape := ⟨2, ![1, 24576]⟩
abbrev S24576x256 : Shape := ⟨2, ![24576, 256]⟩
abbrev S2x24576 : Shape := ⟨2, ![2, 24576]⟩
abbrev S256x1024 : Shape := ⟨2, ![256, 1024]⟩
abbrev S1x256x8 : Shape := ⟨3, ![1, 256, 8]⟩
abbrev S1x1024 : Shape := ⟨2, ![1, 1024]⟩
abbrev S1024x256 : Shape := ⟨2, ![1024, 256]⟩
abbrev S2x1024 : Shape := ⟨2, ![2, 1024]⟩
abbrev S2x256x128 : Shape := ⟨3, ![2, 256, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩
abbrev S1x128 : Shape := ⟨2, ![1, 128]⟩
abbrev S1x128x128 : Shape := ⟨3, ![1, 128, 128]⟩
abbrev S1x256x128 : Shape := ⟨3, ![1, 256, 128]⟩
abbrev S256x128 : Shape := ⟨2, ![256, 128]⟩
abbrev S1x256x64 : Shape := ⟨3, ![1, 256, 64]⟩
abbrev S256x64 : Shape := ⟨2, ![256, 64]⟩
abbrev S24576 : Shape := ⟨1, ![24576]⟩
abbrev S24576x2 : Shape := ⟨2, ![24576, 2]⟩

abbrev nBuf : Space → Nat
  | .hbm => 12
  | .vmem => 16
  | .smem => 0
  | _ => 0

abbrev bufTy : (tb : Table) → Fin (tcTables nBuf tb) → BufTy
  | .hbm, ⟨0, _⟩ => ⟨S256x24576, .bf16⟩
  | .hbm, ⟨1, _⟩ => ⟨S256x24576, .fp8e4m3⟩
  | .hbm, ⟨2, _⟩ => ⟨S256x192, .f32⟩
  | .hbm, ⟨3, _⟩ => ⟨S256x24x8, .f32⟩
  | .hbm, ⟨4, _⟩ => ⟨S24x256x8, .f32⟩
  | .hbm, ⟨5, _⟩ => ⟨S1x24576, .f32⟩
  | .hbm, ⟨6, _⟩ => ⟨S256x24576, .fp8e5m2⟩
  | .hbm, ⟨7, _⟩ => ⟨S256x192, .f32⟩
  | .hbm, ⟨8, _⟩ => ⟨S24576x256, .fp8e5m2⟩
  | .hbm, ⟨9, _⟩ => ⟨S2x24576, .f32⟩
  | .hbm, ⟨10, _⟩ => ⟨S24576, .f32⟩
  | .hbm, ⟨11, _⟩ => ⟨S24576x2, .f32⟩
  | .local _ .vmem, ⟨0, _⟩ => ⟨S256x1024, .bf16⟩
  | .local _ .vmem, ⟨1, _⟩ => ⟨S256x1024, .bf16⟩
  | .local _ .vmem, ⟨2, _⟩ => ⟨S256x1024, .fp8e4m3⟩
  | .local _ .vmem, ⟨3, _⟩ => ⟨S256x1024, .fp8e4m3⟩
  | .local _ .vmem, ⟨4, _⟩ => ⟨S1x256x8, .f32⟩
  | .local _ .vmem, ⟨5, _⟩ => ⟨S1x256x8, .f32⟩
  | .local _ .vmem, ⟨6, _⟩ => ⟨S1x1024, .f32⟩
  | .local _ .vmem, ⟨7, _⟩ => ⟨S1x1024, .f32⟩
  | .local _ .vmem, ⟨8, _⟩ => ⟨S256x1024, .fp8e5m2⟩
  | .local _ .vmem, ⟨9, _⟩ => ⟨S256x1024, .fp8e5m2⟩
  | .local _ .vmem, ⟨10, _⟩ => ⟨S256x192, .f32⟩
  | .local _ .vmem, ⟨11, _⟩ => ⟨S1024x256, .fp8e5m2⟩
  | .local _ .vmem, ⟨12, _⟩ => ⟨S1024x256, .fp8e5m2⟩
  | .local _ .vmem, ⟨13, _⟩ => ⟨S2x1024, .f32⟩
  | .local _ .vmem, ⟨14, _⟩ => ⟨S2x1024, .f32⟩
  | .local _ .vmem, ⟨15, _⟩ => ⟨S2x256x128, .f32⟩
  | _, _ => ⟨S256x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![24], ![false]⟩

def k0_off1 (i : grid0.Coords) (c0_i32 : BitVec 32) : Fin 3 → Nat :=
  let arg0 : BitVec 32 := BitVec.ofNat 32 (i 0).val
  let c8_i32 : BitVec 32 := 8#32
  let v1 : BitVec 32 := Scalar.muli arg0 c8_i32
  let v2 : BitVec 32 := Scalar.addi v1 c0_i32
  let c0_i32_45 : BitVec 32 := 0#32
  let v168 : BitVec 1 := Scalar.cmpi .sgt v2 c0_i32_45
  let v169 : BitVec 32 := Scalar.extui v168
  let c0_i32_46 : BitVec 32 := 0#32
  let v170 : BitVec 1 := Scalar.cmpi .slt v2 c0_i32_46
  let v171 : BitVec 32 := Scalar.extui v170
  let v172 : BitVec 32 := Scalar.subi v169 v171
  let c128_i32 : BitVec 32 := 128#32
  let c0_i32_47 : BitVec 32 := 0#32
  let v173 : BitVec 1 := Scalar.cmpi .sgt c128_i32 c0_i32_47
  let v174 : BitVec 32 := Scalar.extui v173
  let c0_i32_48 : BitVec 32 := 0#32
  let v175 : BitVec 1 := Scalar.cmpi .slt c128_i32 c0_i32_48
  let v176 : BitVec 32 := Scalar.extui v175
  let v177 : BitVec 32 := Scalar.subi v174 v176
  let v178 : BitVec 1 := Scalar.cmpi .ne v172 v177
  let v179 : BitVec 32 := Scalar.remsi v2 c128_i32
  let c0_i32_49 : BitVec 32 := 0#32
  let v180 : BitVec 1 := Scalar.cmpi .ne v179 c0_i32_49
  let v181 : BitVec 1 := Scalar.andi v178 v180
  let v167 : BitVec 32 := Scalar.divsi v2 c128_i32
  let c1_i32 : BitVec 32 := 1#32
  let v182 : BitVec 32 := Scalar.subi v167 c1_i32
  let v183 : BitVec 32 := Scalar.select v181 v182 v167
  let v196 : Index := Scalar.indexCast v183
  let c0_56 : Index := 0#32
  let c0_57 : Index := 0#32
  ![v196.toNat, 0, 0]
def k0_off2 (i : grid0.Coords) (c0_i32 : BitVec 32) : Fin 3 → Nat :=
  let arg0 : BitVec 32 := BitVec.ofNat 32 (i 0).val
  let c8_i32 : BitVec 32 := 8#32
  let v1 : BitVec 32 := Scalar.muli arg0 c8_i32
  let v2 : BitVec 32 := Scalar.addi v1 c0_i32
  let c0_i32_116 : BitVec 32 := 0#32
  let v372 : BitVec 1 := Scalar.cmpi .sgt v2 c0_i32_116
  let v373 : BitVec 32 := Scalar.extui v372
  let c0_i32_117 : BitVec 32 := 0#32
  let v374 : BitVec 1 := Scalar.cmpi .slt v2 c0_i32_117
  let v375 : BitVec 32 := Scalar.extui v374
  let v376 : BitVec 32 := Scalar.subi v373 v375
  let c128_i32_115 : BitVec 32 := 128#32
  let c0_i32_118 : BitVec 32 := 0#32
  let v377 : BitVec 1 := Scalar.cmpi .sgt c128_i32_115 c0_i32_118
  let v378 : BitVec 32 := Scalar.extui v377
  let c0_i32_119 : BitVec 32 := 0#32
  let v379 : BitVec 1 := Scalar.cmpi .slt c128_i32_115 c0_i32_119
  let v380 : BitVec 32 := Scalar.extui v379
  let v381 : BitVec 32 := Scalar.subi v378 v380
  let v382 : BitVec 1 := Scalar.cmpi .ne v376 v381
  let v383 : BitVec 32 := Scalar.remsi v2 c128_i32_115
  let c0_i32_120 : BitVec 32 := 0#32
  let v384 : BitVec 1 := Scalar.cmpi .ne v383 c0_i32_120
  let v385 : BitVec 1 := Scalar.andi v382 v384
  let v371 : BitVec 32 := Scalar.divsi v2 c128_i32_115
  let c1_i32_121 : BitVec 32 := 1#32
  let v386 : BitVec 32 := Scalar.subi v371 c1_i32_121
  let v387 : BitVec 32 := Scalar.select v385 v386 v371
  let v400 : Index := Scalar.indexCast v387
  let c128_128 : Index := 128#32
  let c0_129 : Index := 0#32
  ![v400.toNat, 128, 0]
def k0_cond1 (i : grid0.Coords) : BitVec 1 :=
  let arg0 : BitVec 32 := BitVec.ofNat 32 (i 0).val
  let c23_i32 : BitVec 32 := 23#32
  let v3274 : BitVec 1 := Scalar.cmpi .eq arg0 c23_i32
  let v3275 : BitVec 32 := Scalar.extui v3274
  let c0_i32_1173 : BitVec 32 := 0#32
  let v3276 : BitVec 1 := Scalar.cmpi .ne v3275 c0_i32_1173
  v3276

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "gelu_k" => some ((Real.sqrt (2 * Real.pi⁻¹) : ℝ) : EReal)
  | "gelu_kc" => some (((Real.sqrt (2 * Real.pi⁻¹)) * (8943 / 200000) : ℝ) : EReal)
  | _ => none
-- ==== ReferenceIdeal.lean ====
variable {F : FTy → Type} [FloatOps F] [Named F]
def κ : String → Option EReal := fun
  | "gelu_3c" => some ((26829 / 200000 : ℝ) : EReal)
  | "gelu_c" => some ((8943 / 200000 : ℝ) : EReal)
  | "gelu_k" => some ((Real.sqrt (2 * Real.pi⁻¹) : ℝ) : EReal)
  | _ => none
-- ==== Reference.lean ====
abbrev S256x24576 : Shape := ⟨2, ![256, 24576]⟩
abbrev S256x192 : Shape := ⟨2, ![256, 192]⟩
abbrev S24576 : Shape := ⟨1, ![24576]⟩
abbrev S24576x256 : Shape := ⟨2, ![24576, 256]⟩
abbrev S24576x2 : Shape := ⟨2, ![24576, 2]⟩
abbrev S256x192x128 : Shape := ⟨3, ![256, 192, 128]⟩
abbrev S256x192x1 : Shape := ⟨3, ![256, 192, 1]⟩
abbrev S2x128x24576 : Shape := ⟨3, ![2, 128, 24576]⟩
abbrev S2x24576 : Shape := ⟨2, ![2, 24576]⟩
abbrev S2x1x24576 : Shape := ⟨3, ![2, 1, 24576]⟩

abbrev nBuf : Space → Nat
  | .hbm => 8
  | .vmem => 8
  | .smem => 0
  | _ => 0

abbrev bufTy : (tb : Table) → Fin (tcTables nBuf tb) → BufTy
  | .hbm, ⟨0, _⟩ => ⟨S256x24576, .bf16⟩
  | .hbm, ⟨1, _⟩ => ⟨S256x24576, .fp8e4m3⟩
  | .hbm, ⟨2, _⟩ => ⟨S256x192, .f32⟩
  | .hbm, ⟨3, _⟩ => ⟨S24576, .f32⟩
  | .hbm, ⟨4, _⟩ => ⟨S256x24576, .fp8e5m2⟩
  | .hbm, ⟨5, _⟩ => ⟨S256x192, .f32⟩
  | .hbm, ⟨6, _⟩ => ⟨S24576x256, .fp8e5m2⟩
  | .hbm, ⟨7, _⟩ => ⟨S24576x2, .f32⟩
  | .local _ .vmem, ⟨0, _⟩ => ⟨S256x24576, .bf16⟩
  | .local _ .vmem, ⟨1, _⟩ => ⟨S256x24576, .fp8e4m3⟩
  | .local _ .vmem, ⟨2, _⟩ => ⟨S256x192, .f32⟩
  | .local _ .vmem, ⟨3, _⟩ => ⟨S24576, .f32⟩
  | .local _ .vmem, ⟨4, _⟩ => ⟨S256x24576, .fp8e5m2⟩
  | .local _ .vmem, ⟨5, _⟩ => ⟨S256x192, .f32⟩
  | .local _ .vmem, ⟨6, _⟩ => ⟨S24576x256, .fp8e5m2⟩
  | .local _ .vmem, ⟨7, _⟩ => ⟨S24576x2, .f32⟩
  | _, _ => ⟨S256x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x24576 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x24576 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x24576 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x256 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.FrameKernel.lean ====
/- The frame of the kernel: it runs to its end, nothing faults, its arguments end as they were. The body is run once, at any
   grid point and on any buffers; what it leaves in the outputs and in the scratch is not named here. -/
module

public import proofs.«01_k».proof.Proof.Gen.Kernel.Frame
public import proofs.«01_k».proof.Proof.Gen.Kernel.Skeleton
public import Idealize.ShloMosaic.Lib.Claim
public import Idealize.ShloMosaic.Lib.UnfoldOut

@[expose] public section

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first coordinate of a column group's tile in the scratch: the 128-lane half the group belongs to. -/
theorem off1_eq : ∀ (i : grid0.Coords) (r : Fin 8), k0_off1 i (BitVec.ofNat 32 r.val) = ![(i 0).val / 16, 0, 0] := by
  decide +kernel
theorem off2_eq : ∀ (i : grid0.Coords) (r : Fin 8), k0_off2 i (BitVec.ofNat 32 r.val) = ![(i 0).val / 16, 128, 0] := by
  decide +kernel
instance closedOff1_0 (i : grid0.Coords) : ClosedOff (k0_off1 i 0#32) := ⟨![(i 0).val / 16, 0, 0], off1_eq i 0⟩
instance closedOff2_0 (i : grid0.Coords) : ClosedOff (k0_off2 i 0#32) := ⟨![(i 0).val / 16, 128, 0], off2_eq i 0⟩
instance closedOff1_1 (i : grid0.Coords) : ClosedOff (k0_off1 i 1#32) := ⟨![(i 0).val / 16, 0, 0], off1_eq i 1⟩
instance closedOff2_1 (i : grid0.Coords) : ClosedOff (k0_off2 i 1#32) := ⟨![(i 0).val / 16, 128, 0], off2_eq i 1⟩
instance closedOff1_2 (i : grid0.Coords) : ClosedOff (k0_off1 i 2#32) := ⟨![(i 0).val / 16, 0, 0], off1_eq i 2⟩
instance closedOff2_2 (i : grid0.Coords) : ClosedOff (k0_off2 i 2#32) := ⟨![(i 0).val / 16, 128, 0], off2_eq i 2⟩
instance closedOff1_3 (i : grid0.Coords) : ClosedOff (k0_off1 i 3#32) := ⟨![(i 0).val / 16, 0, 0], off1_eq i 3⟩
instance closedOff2_3 (i : grid0.Coords) : ClosedOff (k0_off2 i 3#32) := ⟨![(i 0).val / 16, 128, 0], off2_eq i 3⟩
instance closedOff1_4 (i : grid0.Coords) : ClosedOff (k0_off1 i 4#32) := ⟨![(i 0).val / 16, 0, 0], off1_eq i 4⟩
instance closedOff2_4 (i : grid0.Coords) : ClosedOff (k0_off2 i 4#32) := ⟨![(i 0).val / 16, 128, 0], off2_eq i 4⟩
instance closedOff1_5 (i : grid0.Coords) : ClosedOff (k0_off1 i 5#32) := ⟨![(i 0).val / 16, 0, 0], off1_eq i 5⟩
instance closedOff2_5 (i : grid0.Coords) : ClosedOff (k0_off2 i 5#32) := ⟨![(i 0).val / 16, 128, 0], off2_eq i 5⟩
instance closedOff1_6 (i : grid0.Coords) : ClosedOff (k0_off1 i 6#32) := ⟨![(i 0).val / 16, 0, 0], off1_eq i 6⟩
instance closedOff2_6 (i : grid0.Coords) : ClosedOff (k0_off2 i 6#32) := ⟨![(i 0).val / 16, 128, 0], off2_eq i 6⟩
instance closedOff1_7 (i : grid0.Coords) : ClosedOff (k0_off1 i 7#32) := ⟨![(i 0).val / 16, 0, 0], off1_eq i 7⟩
instance closedOff2_7 (i : grid0.Coords) : ClosedOff (k0_off2 i 7#32) := ⟨![(i 0).val / 16, 128, 0], off2_eq i 7⟩

set_option maxHeartbeats 4000000 in
/-- The body, on whole buffers: the inputs end as they were, every other buffer at something. -/
theorem sound_kernel (c : Dev nD) (E : Set ℕ) (i : grid0.Coords) (arg1 : Memref sig .tc .vmem S256x1024 .bf16) (harg1 : arg1.IsWhole) (arg2 : Memref sig .tc .vmem S256x1024 .fp8e4m3) (harg2 : arg2.IsWhole) (arg3 : Memref sig .tc .vmem S1x256x8 .f32) (harg3 : arg3.IsWhole) (arg4 : Memref sig .tc .vmem S1x1024 .f32) (harg4 : arg4.IsWhole) (arg5 : Memref sig .tc .vmem S256x1024 .fp8e5m2) (harg5 : arg5.IsWhole) (arg6 : Memref sig .tc .vmem S256x192 .f32) (harg6 : arg6.IsWhole) (arg7 : Memref sig .tc .vmem S1024x256 .fp8e5m2) (harg7 : arg7.IsWhole) (arg8 : Memref sig .tc .vmem S2x1024 .f32) (harg8 : arg8.IsWhole) (arg9 : Memref sig .tc .vmem S2x256x128 .f32) (harg9 : arg9.IsWhole)
    (x0 : Vec F S256x1024 .bf16) (x1 : Vec F S256x1024 .fp8e4m3) (x2 : Vec F S1x256x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_gelu_bwd_cast i arg1 harg1 arg2 harg2 arg3 harg3 arg4 harg4 arg5 harg5 arg6 harg6 arg7 harg7 arg8 harg8 arg9 harg9) K := by
  simp only [cc0_gelu_bwd_cast_eq_skeleton]; unfold cc0_gelu_bwd_cast_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

variable (m : (ℓ : Loc nD τ sig) → Buf (Elt F) ℓ) (ρ : Dev nD → PrngReg)

/-- The proof data: the inputs' buffers at their blocks; the outputs' are named nowhere (`fgt`), so what stands here for
    them is never read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The windows whose contents are not named: the five outputs. -/
def fgt (w : Fin cfg0.W) : Bool := decide (3 ≤ w.val)

/-- The windows the host reads or writes after the region, beyond those of the pipeline. -/
def hostRefs : Finset (Ref sig .tc) := {main_v3, main_v4}

/-- The region's invariant: the scratch and the generator register, at anything. -/
theorem ΦA_eq (c : Dev nD) : (Pipeline.ΦA spec0 c : sProp 𝕄) = iprop((∃ f : Vec F S2x256x128 .f32, owns (c : Thread nD τ) (Memref.whole cc0_scratch0) fullShare f) ∗ ∃ r, prngReg c r) := by
  unfold Pipeline.ΦA
  rw [scopedRest0_eq]
  simp only [owns_whole]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl, ΦA_eq,
    show (dats m 0 c).owesAt () t.succ = (dats m 0 c).owesAt () t.castSucc from rfl,
    after0_0, after0_1, after0_2]
  iintro ⟨⟨HS, Hr⟩, Ho, ⟨%d0, H0⟩, ⟨%d1, H1⟩, ⟨%d2, H2⟩, H3, H4, H5, H6, H7⟩
  iapply (sound_kernel c Set.univ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

theorem sfx_writes : ∀ ops ∈ ([hostOps1] : List (List (HloOp τ sig (Elt F)))), ∀ op ∈ ops,
    ∀ b : Ref sig .tc, Proc.devRef .tc b ∈ op.writes → b ∈ hostRefs := by
  intro ops hops op hop
  simp only [List.mem_cons, List.mem_nil_iff, or_false] at hops
  rcases hops with rfl
  simp only [hostOps1, List.mem_cons, List.mem_nil_iff, or_false] at hop
  rcases hop with rfl | rfl
  all_goals
    intro b hb
    simp only [StableHlo.reshape_writes, StableHlo.unary_writes, Finset.mem_singleton] at hb
    rw [Proc.devRef_injective _ hb]
    decide

set_option backward.isDefEq.respectTransparency.types false in
set_option maxHeartbeats 800000 in
theorem run_main_quiescent : θ_run defs (onTc (τ := τ) (main (F := F))) (s₀ m ρ) (fun r => (Pipeline.RDat.FramePostR cfg0 (fun c => (dats m 0 c).toRForget fgt) hostRefs (V m)) r ∧ r.2.sem = fun _ => 0) :=
  Pipeline.θ_run_frame_around_T_forget (Q' := _) cfgs (dats m) (0 : Fin 1) launch0 defs₀ Variants.none fgt hostRefs m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame of the kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      ((h.1 c).2 main_arg2 (Finset.mem_sdiff.mpr ⟨Pipeline.mem_restRefs_of main_arg2 (by decide) (by decide), by decide⟩)).trans (V_main_arg2 m c)⟩, h.2⟩) (run_main_quiescent m ρ)

end Cert.Kernel.FrameProof
-- ==== Proof.FrameKernelIdeal.lean ====
/- The frame of the kernel: it runs to its end, nothing faults, its arguments end as they were. The body is run once, at any
   grid point and on any buffers; what it leaves in the outputs and in the scratch is not named here. -/
module

public import proofs.«01_k».proof.Proof.Gen.KernelIdeal.Frame
public import proofs.«01_k».proof.Proof.Gen.KernelIdeal.Skeleton
public import Idealize.ShloMosaic.Lib.Claim
public import Idealize.ShloMosaic.Lib.UnfoldOut

@[expose] public section

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first coordinate of a column group's tile in the scratch: the 128-lane half the group belongs to. -/
theorem off1_eq : ∀ (i : grid0.Coords) (r : Fin 8), k0_off1 i (BitVec.ofNat 32 r.val) = ![(i 0).val / 16, 0, 0] := by
  decide +kernel
theorem off2_eq : ∀ (i : grid0.Coords) (r : Fin 8), k0_off2 i (BitVec.ofNat 32 r.val) = ![(i 0).val / 16, 128, 0] := by
  decide +kernel
instance closedOff1_0 (i : grid0.Coords) : ClosedOff (k0_off1 i 0#32) := ⟨![(i 0).val / 16, 0, 0], off1_eq i 0⟩
instance closedOff2_0 (i : grid0.Coords) : ClosedOff (k0_off2 i 0#32) := ⟨![(i 0).val / 16, 128, 0], off2_eq i 0⟩
instance closedOff1_1 (i : grid0.Coords) : ClosedOff (k0_off1 i 1#32) := ⟨![(i 0).val / 16, 0, 0], off1_eq i 1⟩
instance closedOff2_1 (i : grid0.Coords) : ClosedOff (k0_off2 i 1#32) := ⟨![(i 0).val / 16, 128, 0], off2_eq i 1⟩
instance closedOff1_2 (i : grid0.Coords) : ClosedOff (k0_off1 i 2#32) := ⟨![(i 0).val / 16, 0, 0], off1_eq i 2⟩
instance closedOff2_2 (i : grid0.Coords) : ClosedOff (k0_off2 i 2#32) := ⟨![(i 0).val / 16, 128, 0], off2_eq i 2⟩
instance closedOff1_3 (i : grid0.Coords) : ClosedOff (k0_off1 i 3#32) := ⟨![(i 0).val / 16, 0, 0], off1_eq i 3⟩
instance closedOff2_3 (i : grid0.Coords) : ClosedOff (k0_off2 i 3#32) := ⟨![(i 0).val / 16, 128, 0], off2_eq i 3⟩
instance closedOff1_4 (i : grid0.Coords) : ClosedOff (k0_off1 i 4#32) := ⟨![(i 0).val / 16, 0, 0], off1_eq i 4⟩
instance closedOff2_4 (i : grid0.Coords) : ClosedOff (k0_off2 i 4#32) := ⟨![(i 0).val / 16, 128, 0], off2_eq i 4⟩
instance closedOff1_5 (i : grid0.Coords) : ClosedOff (k0_off1 i 5#32) := ⟨![(i 0).val / 16, 0, 0], off1_eq i 5⟩
instance closedOff2_5 (i : grid0.Coords) : ClosedOff (k0_off2 i 5#32) := ⟨![(i 0).val / 16, 128, 0], off2_eq i 5⟩
instance closedOff1_6 (i : grid0.Coords) : ClosedOff (k0_off1 i 6#32) := ⟨![(i 0).val / 16, 0, 0], off1_eq i 6⟩
instance closedOff2_6 (i : grid0.Coords) : ClosedOff (k0_off2 i 6#32) := ⟨![(i 0).val / 16, 128, 0], off2_eq i 6⟩
instance closedOff1_7 (i : grid0.Coords) : ClosedOff (k0_off1 i 7#32) := ⟨![(i 0).val / 16, 0, 0], off1_eq i 7⟩
instance closedOff2_7 (i : grid0.Coords) : ClosedOff (k0_off2 i 7#32) := ⟨![(i 0).val / 16, 128, 0], off2_eq i 7⟩

set_option maxHeartbeats 4000000 in
/-- The body, on whole buffers: the inputs end as they were, every other buffer at something. -/
theorem sound_kernel (c : Dev nD) (E : Set ℕ) (i : grid0.Coords) (arg1 : Memref sig .tc .vmem S256x1024 .bf16) (harg1 : arg1.IsWhole) (arg2 : Memref sig .tc .vmem S256x1024 .fp8e4m3) (harg2 : arg2.IsWhole) (arg3 : Memref sig .tc .vmem S1x256x8 .f32) (harg3 : arg3.IsWhole) (arg4 : Memref sig .tc .vmem S1x1024 .f32) (harg4 : arg4.IsWhole) (arg5 : Memref sig .tc .vmem S256x1024 .fp8e5m2) (harg5 : arg5.IsWhole) (arg6 : Memref sig .tc .vmem S256x192 .f32) (harg6 : arg6.IsWhole) (arg7 : Memref sig .tc .vmem S1024x256 .fp8e5m2) (harg7 : arg7.IsWhole) (arg8 : Memref sig .tc .vmem S2x1024 .f32) (harg8 : arg8.IsWhole) (arg9 : Memref sig .tc .vmem S2x256x128 .f32) (harg9 : arg9.IsWhole)
    (x0 : Vec F S256x1024 .bf16) (x1 : Vec F S256x1024 .fp8e4m3) (x2 : Vec F S1x256x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_gelu_bwd_cast i arg1 harg1 arg2 harg2 arg3 harg3 arg4 harg4 arg5 harg5 arg6 harg6 arg7 harg7 arg8 harg8 arg9 harg9) K := by
  simp only [cc0_gelu_bwd_cast_eq_skeleton]; unfold cc0_gelu_bwd_cast_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

variable (m : (ℓ : Loc nD τ sig) → Buf (Elt F) ℓ) (ρ : Dev nD → PrngReg)

/-- The proof data: the inputs' buffers at their blocks; the outputs' are named nowhere (`fgt`), so what stands here for
    them is never read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The windows whose contents are not named: the five outputs. -/
def fgt (w : Fin cfg0.W) : Bool := decide (3 ≤ w.val)

/-- The windows the host reads or writes after the region, beyond those of the pipeline. -/
def hostRefs : Finset (Ref sig .tc) := {main_v3, main_v4}

/-- The region's invariant: the scratch and the generator register, at anything. -/
theorem ΦA_eq (c : Dev nD) : (Pipeline.ΦA spec0 c : sProp 𝕄) = iprop((∃ f : Vec F S2x256x128 .f32, owns (c : Thread nD τ) (Memref.whole cc0_scratch0) fullShare f) ∗ ∃ r, prngReg c r) := by
  unfold Pipeline.ΦA
  rw [scopedRest0_eq]
  simp only [owns_whole]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl, ΦA_eq,
    show (dats m 0 c).owesAt () t.succ = (dats m 0 c).owesAt () t.castSucc from rfl,
    after0_0, after0_1, after0_2]
  iintro ⟨⟨HS, Hr⟩, Ho, ⟨%d0, H0⟩, ⟨%d1, H1⟩, ⟨%d2, H2⟩, H3, H4, H5, H6, H7⟩
  iapply (sound_kernel c Set.univ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ fgt := fun t => by
  rw [bigSep_W0, bigSep_W0, defs₀_row]
  exact triple_restated (sound_body m c t) rfl .rfl fun _ => .rfl

theorem sfx_writes : ∀ ops ∈ ([hostOps1] : List (List (HloOp τ sig (Elt F)))), ∀ op ∈ ops,
    ∀ b : Ref sig .tc, Proc.devRef .tc b ∈ op.writes → b ∈ hostRefs := by
  intro ops hops op hop
  simp only [List.mem_cons, List.mem_nil_iff, or_false] at hops
  rcases hops with rfl
  simp only [hostOps1, List.mem_cons, List.mem_nil_iff, or_false] at hop
  rcases hop with rfl | rfl
  all_goals
    intro b hb
    simp only [StableHlo.reshape_writes, StableHlo.unary_writes, Finset.mem_singleton] at hb
    rw [Proc.devRef_injective _ hb]
    decide

set_option backward.isDefEq.respectTransparency.types false in
set_option maxHeartbeats 800000 in
theorem run_main_quiescent : θ_run defs (onTc (τ := τ) (main (F := F))) (s₀ m ρ) (fun r => (Pipeline.RDat.FramePostR cfg0 (fun c => (dats m 0 c).toRForget fgt) hostRefs (V m)) r ∧ r.2.sem = fun _ => 0) :=
  Pipeline.θ_run_frame_around_T_forget (Q' := _) cfgs (dats m) (0 : Fin 1) launch0 defs₀ Variants.none fgt hostRefs m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame of the kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      ((h.1 c).2 main_arg2 (Finset.mem_sdiff.mpr ⟨Pipeline.mem_restRefs_of main_arg2 (by decide) (by decide), by decide⟩)).trans (V_main_arg2 m c)⟩, h.2⟩) (run_main_quiescent m ρ)

end Cert.KernelIdeal.FrameProof
-- ==== Proof.Tiles.lean ====
/- What the body of the kernel computes at one grid point, tile by tile: the tile of 128 rows (row block `b`) and 128 columns
   (column group `j` of the point's eight), the values stored for it, and the lists of the body's stores. -/
module

public import proofs.«01_k».proof.Proof.Gen.KernelIdeal.Frame
public import proofs.«01_k».proof.Proof.Gen.KernelIdeal.Skeleton
public import Idealize.ShloMosaic.Lib.WritesUnit
public import Idealize.ShloMosaic.Lib.WritesUnit
public import Idealize.ShloMosaic.Lib.Claim
public import Idealize.ShloMosaic.Lib.UnfoldOut

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The offsets of a column group's tile in the scratch: the first is the 128-lane half the group belongs to. -/
theorem off1_eq : ∀ (i : grid0.Coords) (r : Fin 8), k0_off1 i (BitVec.ofNat 32 r.val) = ![(i 0).val / 16, 0, 0] := by
  decide +kernel
theorem off2_eq : ∀ (i : grid0.Coords) (r : Fin 8), k0_off2 i (BitVec.ofNat 32 r.val) = ![(i 0).val / 16, 128, 0] := by
  decide +kernel

variable (x0 : Vec F S256x1024 .bf16) (x1 : Vec F S256x1024 .fp8e4m3) (x2 : Vec F S1x256x8 .f32)

theorem inbT {j b : ℕ} (hj : j < 8) (hb : b < 2) : ∀ a : Fin S256x1024.rank, (![128 * b, 128 * j] : Fin 2 → ℕ) a + S128x128.size a ≤ S256x1024.size a :=
  Fin.forall_fin_two.mpr ⟨show 128 * b + 128 ≤ 256 by omega, show 128 * j + 128 ≤ 1024 by omega⟩
theorem inbC {j b : ℕ} (hj : j < 8) (hb : b < 2) : ∀ a : Fin S1024x256.rank, (![128 * j, 128 * b] : Fin 2 → ℕ) a + S128x128.size a ≤ S1024x256.size a :=
  Fin.forall_fin_two.mpr ⟨show 128 * j + 128 ≤ 1024 by omega, show 128 * b + 128 ≤ 256 by omega⟩
theorem inbS {j b : ℕ} (hj : j < 8) (hb : b < 2) : ∀ a : Fin S1x256x8.rank, (![0, 128 * b, j] : Fin 3 → ℕ) a + S1x128x1.size a ≤ S1x256x8.size a := fun a => by
  match a with
  | ⟨0, _⟩ => exact Nat.le_refl 1
  | ⟨1, _⟩ => show 128 * b + 128 ≤ 256; omega
  | ⟨2, _⟩ => show j + 1 ≤ 8; omega
theorem inbD {j : ℕ} (hj : j < 8) : ∀ a : Fin S1x1024.rank, (![0, 128 * j] : Fin 2 → ℕ) a + S1x128.size a ≤ S1x1024.size a :=
  Fin.forall_fin_two.mpr ⟨Nat.le_refl 1, show 128 * j + 128 ≤ 1024 by omega⟩
theorem inbK {j b : ℕ} (hj : j < 8) (hb : b < 2) : ∀ a : Fin S2x1024.rank, (![b, 128 * j] : Fin 2 → ℕ) a + S1x128.size a ≤ S2x1024.size a :=
  Fin.forall_fin_two.mpr ⟨show b + 1 ≤ 2 by omega, show 128 * j + 128 ≤ 1024 by omega⟩

section
variable (j b : ℕ) (hj : j < 8) (hb : b < 2)

/-- The tile of the gradient, -/
def gT : Vec F S128x128 .bf16 := View.ld x0 (Rect.unit ![128 * b, 128 * j] S128x128.size (inbT hj hb))
/-- of the codes, -/
def qT : Vec F S128x128 .fp8e4m3 := View.ld x1 (Rect.unit ![128 * b, 128 * j] S128x128.size (inbT hj hb))
/-- and its rows' scales. -/
def sT : Vec F S1x128x1 .f32 := View.ld x2 (Rect.unit ![0, 128 * b, j] S1x128x1.size (inbS hj hb))
/-- The derivative on the tile, -/
def dT : FVec F S128x128 .f32 := k0_pay3 (gT x0 j b hj hb) (qT x1 j b hj hb) (sT x2 j b hj hb)
/-- its column sums, -/
def sumT : FVec F S1x128 .f32 := k0_pay4 (gT x0 j b hj hb) (qT x1 j b hj hb) (sT x2 j b hj hb)
/-- its rows' largest magnitudes, -/
def rowMaxT : FVec F S128x1 .f32 := k0_pay6 (gT x0 j b hj hb) (qT x1 j b hj hb) (sT x2 j b hj hb)
/-- its columns', -/
def colMaxT : FVec F S1x128 .f32 := k0_pay7 (gT x0 j b hj hb) (qT x1 j b hj hb) (sT x2 j b hj hb)
/-- the rows' scales and their inverses, -/
def rowScaleT : FVec F S128x1 .f32 :=
  k0_pay12 (k0_pay9 (rowMaxT x0 x1 x2 j b hj hb) (Scalar.ofBits .f32 0x37924925#32)) (k0_pay10 (rowMaxT x0 x1 x2 j b hj hb) (Scalar.ofBits .f32 0x37924925#32)) k0_pay11
def rowInvT : FVec F S128x1 .f32 :=
  k0_pay13 (k0_pay8 (rowMaxT x0 x1 x2 j b hj hb) (Scalar.ofBits .f32 0x37924925#32)) (k0_pay9 (rowMaxT x0 x1 x2 j b hj hb) (Scalar.ofBits .f32 0x37924925#32))
/-- the columns' scales, -/
def colScaleT : FVec F S1x128 .f32 :=
  k0_pay20 (k0_pay14 (colMaxT x0 x1 x2 j b hj hb)) (k0_pay15 (colMaxT x0 x1 x2 j b hj hb)) (k0_pay16 (colMaxT x0 x1 x2 j b hj hb)) (k0_pay17 (colMaxT x0 x1 x2 j b hj hb))
/-- the tile cast by rows, -/
def rcT : FVec F S128x128 .fp8e5m2 := k0_pay21 (dT x0 x1 x2 j b hj hb) (rowInvT x0 x1 x2 j b hj hb)
/-- and by columns, transposed. -/
def ccT : FVec F S128x128 .fp8e5m2 :=
  k0_pay22 (dT x0 x1 x2 j b hj hb) (k0_pay14 (colMaxT x0 x1 x2 j b hj hb)) (k0_pay15 (colMaxT x0 x1 x2 j b hj hb)) (k0_pay16 (colMaxT x0 x1 x2 j b hj hb)) (k0_pay17 (colMaxT x0 x1 x2 j b hj hb))
/-- A tile of the scratch with the lane of the point's column group `j` replaced by the rows' scales. -/
def scT (i : grid0.Coords) (old : Vec F S1x128x128 .f32) : FVec F S1x128x128 .f32 :=
  k0_pay23 (iota Kind.tc S128x128 32 [1] iota_S128x128_d1_w32) (Scalar.addi (Scalar.muli (BitVec.ofNat 32 (i 0).val) 8#32) (BitVec.ofNat 32 j)) (rowScaleT x0 x1 x2 j b hj hb) old

def piece4 : View.Piece (Elt F) S256x1024 .fp8e5m2 := ⟨Rect.unit ![128 * b, 128 * j] S128x128.size (inbT hj hb), rcT x0 x1 x2 j b hj hb⟩
def piece6 : View.Piece (Elt F) S1024x256 .fp8e5m2 := ⟨Rect.unit ![128 * j, 128 * b] S128x128.size (inbC hj hb), ccT x0 x1 x2 j b hj hb⟩
def piece7 : View.Piece (Elt F) S2x1024 .f32 := ⟨Rect.unit ![b, 128 * j] S1x128.size (inbK hj hb), colScaleT x0 x1 x2 j b hj hb⟩
end

/-- The column sums over both row blocks. -/
def piece3 (j : ℕ) (hj : j < 8) : View.Piece (Elt F) S1x1024 .f32 :=
  ⟨Rect.unit ![0, 128 * j] S1x128.size (inbD hj), addf (sumT x0 x1 x2 j 0 hj (by decide)) (sumT x0 x1 x2 j 1 hj (by decide))⟩

/-- The stores into the column sums' block, the last first; -/
def L3 : List (View.Piece (Elt F) S1x1024 .f32) := [piece3 x0 x1 x2 7 (by decide),
  piece3 x0 x1 x2 6 (by decide),
  piece3 x0 x1 x2 5 (by decide),
  piece3 x0 x1 x2 4 (by decide),
  piece3 x0 x1 x2 3 (by decide),
  piece3 x0 x1 x2 2 (by decide),
  piece3 x0 x1 x2 1 (by decide),
  piece3 x0 x1 x2 0 (by decide)]
/-- into the block cast by rows, -/
def L4 : List (View.Piece (Elt F) S256x1024 .fp8e5m2) := [piece4 x0 x1 x2 7 1 (by decide) (by decide),
  piece4 x0 x1 x2 7 0 (by decide) (by decide),
  piece4 x0 x1 x2 6 1 (by decide) (by decide),
  piece4 x0 x1 x2 6 0 (by decide) (by decide),
  piece4 x0 x1 x2 5 1 (by decide) (by decide),
  piece4 x0 x1 x2 5 0 (by decide) (by decide),
  piece4 x0 x1 x2 4 1 (by decide) (by decide),
  piece4 x0 x1 x2 4 0 (by decide) (by decide),
  piece4 x0 x1 x2 3 1 (by decide) (by decide),
  piece4 x0 x1 x2 3 0 (by decide) (by decide),
  piece4 x0 x1 x2 2 1 (by decide) (by decide),
  piece4 x0 x1 x2 2 0 (by decide) (by decide),
  piece4 x0 x1 x2 1 1 (by decide) (by decide),
  piece4 x0 x1 x2 1 0 (by decide) (by decide),
  piece4 x0 x1 x2 0 1 (by decide) (by decide),
  piece4 x0 x1 x2 0 0 (by decide) (by decide)]
/-- into the block cast by columns, -/
def L6 : List (View.Piece (Elt F) S1024x256 .fp8e5m2) := [piece6 x0 x1 x2 7 1 (by decide) (by decide),
  piece6 x0 x1 x2 7 0 (by decide) (by decide),
  piece6 x0 x1 x2 6 1 (by decide) (by decide),
  piece6 x0 x1 x2 6 0 (by decide) (by decide),
  piece6 x0 x1 x2 5 1 (by decide) (by decide),
  piece6 x0 x1 x2 5 0 (by decide) (by decide),
  piece6 x0 x1 x2 4 1 (by decide) (by decide),
  piece6 x0 x1 x2 4 0 (by decide) (by decide),
  piece6 x0 x1 x2 3 1 (by decide) (by decide),
  piece6 x0 x1 x2 3 0 (by decide) (by decide),
  piece6 x0 x1 x2 2 1 (by decide) (by decide),
  piece6 x0 x1 x2 2 0 (by decide) (by decide),
  piece6 x0 x1 x2 1 1 (by decide) (by decide),
  piece6 x0 x1 x2 1 0 (by decide) (by decide),
  piece6 x0 x1 x2 0 1 (by decide) (by decide),
  piece6 x0 x1 x2 0 0 (by decide) (by decide)]
/-- and into the columns' scales. -/
def L7 : List (View.Piece (Elt F) S2x1024 .f32) := [piece7 x0 x1 x2 7 1 (by decide) (by decide),
  piece7 x0 x1 x2 7 0 (by decide) (by decide),
  piece7 x0 x1 x2 6 1 (by decide) (by decide),
  piece7 x0 x1 x2 6 0 (by decide) (by decide),
  piece7 x0 x1 x2 5 1 (by decide) (by decide),
  piece7 x0 x1 x2 5 0 (by decide) (by decide),
  piece7 x0 x1 x2 4 1 (by decide) (by decide),
  piece7 x0 x1 x2 4 0 (by decide) (by decide),
  piece7 x0 x1 x2 3 1 (by decide) (by decide),
  piece7 x0 x1 x2 3 0 (by decide) (by decide),
  piece7 x0 x1 x2 2 1 (by decide) (by decide),
  piece7 x0 x1 x2 2 0 (by decide) (by decide),
  piece7 x0 x1 x2 1 1 (by decide) (by decide),
  piece7 x0 x1 x2 1 0 (by decide) (by decide),
  piece7 x0 x1 x2 0 1 (by decide) (by decide),
  piece7 x0 x1 x2 0 0 (by decide) (by decide)]

section
variable (i : grid0.Coords) (x8 : Vec F S2x256x128 .f32)

/-- The offsets of the scratch tile of column group `j`'s half and of row block `b`, as the body writes them. -/
def off8 (j : ℕ) : ℕ → Fin 3 → ℕ
  | 0 => k0_off1 i (BitVec.ofNat 32 j)
  | _ + 1 => k0_off2 i (BitVec.ofNat 32 j)

theorem off8_eq {j b : ℕ} (hj : j < 8) (hb : b < 2) : off8 i j b = ![(i 0).val / 16, 128 * b, 0] := by
  match b, hb with
  | 0, _ => exact off1_eq i ⟨j, hj⟩
  | 1, _ => exact off2_eq i ⟨j, hj⟩

theorem inb8 {j b : ℕ} (hj : j < 8) (hb : b < 2) : ∀ a : Fin S2x256x128.rank, off8 i j b a + S1x128x128.size a ≤ S2x256x128.size a := by
  rw [off8_eq i hj hb]
  have hi : (i 0).val < 24 := (i 0).isLt
  intro a
  match a with
  | ⟨0, _⟩ => show (i 0).val / 16 + 1 ≤ 2; omega
  | ⟨1, _⟩ => show 128 * b + 128 ≤ 256; omega
  | ⟨2, _⟩ => exact Nat.le_refl 128

/-- The scratch tile of row block `b` after the point's column groups below `j`. -/
def chain (b : ℕ) (hb : b < 2) : ℕ → Vec F S1x128x128 .f32
  | 0 => View.ld x8 (Rect.unit (off8 i 0 b) S1x128x128.size (inb8 i (by decide) hb))
  | j + 1 => if h : j < 8 then scT x0 x1 x2 j b h hb i (chain b hb j) else chain b hb j

def piece8 (n : ℕ) (hn : n < 16) : View.Piece (Elt F) S2x256x128 .f32 :=
  ⟨Rect.unit (off8 i (n / 2) (n % 2)) S1x128x128.size (inb8 i (by omega) (by omega)), chain x0 x1 x2 i x8 (n % 2) (by omega) (n / 2 + 1)⟩

/-- The stores into the scratch, the last first. -/
def L8 : ℕ → List (View.Piece (Elt F) S2x256x128 .f32)
  | 0 => []
  | n + 1 => if h : n < 16 then piece8 x0 x1 x2 i x8 n h :: L8 n else L8 n

theorem L8_succ {n : ℕ} (hn : n < 16) : L8 x0 x1 x2 i x8 (n + 1) = piece8 x0 x1 x2 i x8 n hn :: L8 x0 x1 x2 i x8 n := by
  rw [L8, dif_pos hn]

theorem chain_congr {b b' j j' : ℕ} {hb : b < 2} {hb' : b' < 2} (e : b = b') (e' : j = j') :
    chain x0 x1 x2 i x8 b hb j = chain x0 x1 x2 i x8 b' hb' j' := by subst e e'; rfl

variable (v : View sig .tc .vmem S2x256x128 .f32) (f : v.ty.Contents (Elt F))

/-- A store into the other row block is not seen; the one before it, into the same tile, is. -/
theorem read_L8 {n : ℕ} (hn : n + 1 < 16) (y : S2x256x128.Idx) (x : S1x128x128.Idx)
    (h0 : (y 0).val = (i 0).val / 16) (h1 : (y 1).val = 128 * (n % 2) + (x 1).val) (h2 : (y 2).val = (x 2).val) :
    v.read (Elt F) (v.writes (Elt F) f (L8 x0 x1 x2 i x8 (n + 2))) y = chain x0 x1 x2 i x8 (n % 2) (by omega) (n / 2 + 1) x := by
  have hx0 : (x 0).val < 1 := (x 0).isLt
  have hx1 : (x 1).val < 128 := (x 1).isLt
  rw [L8_succ x0 x1 x2 i x8 hn, piece8, View.read_writes_cons_unit_of_not_mem v f _ _ _ y (off8_eq i (by omega) (by omega)) 1
    (by show (y 1).val < 128 * ((n + 1) % 2) ∨ 128 * ((n + 1) % 2) + 128 ≤ (y 1).val; omega),
    L8_succ x0 x1 x2 i x8 (by omega : n < 16), piece8]
  exact View.read_writes_cons_unit_of_mem v f _ _ _ y x (off8_eq i (by omega) (by omega)) fun a => by
    match a with
    | ⟨0, _⟩ => show (y 0).val = (i 0).val / 16 + (x 0).val; omega
    | ⟨1, _⟩ => exact h1
    | ⟨2, _⟩ => show (y 2).val = 0 + (x 2).val; omega

theorem readCov_L8 {n : ℕ} (hn : n + 2 < 16) :
    v.readCov (L8 x0 x1 x2 i x8 (n + 2)) (Rect.unit (s := S2x256x128) (off8 i ((n + 2) / 2) ((n + 2) % 2)) S1x128x128.size (inb8 i (by omega) (by omega))).toLoadRect
      = chain x0 x1 x2 i x8 ((n + 2) % 2) (by omega) ((n + 2) / 2) := by
  funext x
  have hx0 : (x 0).val < 1 := (x 0).isLt
  have e : off8 i ((n + 2) / 2) ((n + 2) % 2) = ![(i 0).val / 16, 128 * ((n + 2) % 2), 0] := off8_eq i (show (n + 2) / 2 < 8 by omega) (show (n + 2) % 2 < 2 by omega)
  refine (read_L8 x0 x1 x2 i x8 v v.junk (show n + 1 < 16 by omega) _ x ?_ ?_ ?_).trans
    (congrFun (chain_congr x0 x1 x2 i x8 (by omega) (by omega)) x)
  · refine (congrArg (· + 1 * (x 0).val) (congrFun e 0)).trans ?_
    show (i 0).val / 16 + _ = _; omega
  · refine (congrArg (· + 1 * (x 1).val) (congrFun e 1)).trans ?_
    show 128 * ((n + 2) % 2) + _ = _; omega
  · refine (congrArg (· + 1 * (x 2).val) (congrFun e 2)).trans ?_
    show 0 + _ = _; omega

/-- The other half of the scratch is left alone. -/
theorem read_L8_of_ne (y : S2x256x128.Idx) (h0 : (y 0).val ≠ (i 0).val / 16) : ∀ n, n ≤ 16 →
    v.read (Elt F) (v.writes (Elt F) f (L8 x0 x1 x2 i x8 n)) y = v.read (Elt F) f y
  | 0, _ => rfl
  | n + 1, hn => by
    rw [L8_succ x0 x1 x2 i x8 (by omega : n < 16), piece8, View.read_writes_cons_unit_of_not_mem v f _ _ _ y (off8_eq i (by omega) (by omega)) 0
      (by show (y 0).val < (i 0).val / 16 ∨ (i 0).val / 16 + 1 ≤ (y 0).val; omega)]
    exact read_L8_of_ne y h0 n (by omega)

/-- The scratch after the body. -/
def scr : Vec F S2x256x128 .f32 := fun y =>
  if (y 0).val = (i 0).val / 16 then
    chain x0 x1 x2 i x8 ((y 1).val / 128) (by have : (y 1).val < 256 := (y 1).isLt; omega) 8
      (fun a => match a with
        | ⟨0, _⟩ => (0 : Fin 1)
        | ⟨1, _⟩ => (⟨(y 1).val % 128, Nat.mod_lt _ (by decide)⟩ : Fin 128)
        | ⟨2, _⟩ => (⟨(y 2).val, (y 2).isLt⟩ : Fin 128))
  else x8 y

theorem read_scr (hf : v.read (Elt F) f = x8) : v.read (Elt F) (v.writes (Elt F) f (L8 x0 x1 x2 i x8 16)) = scr x0 x1 x2 i x8 := by
  funext y
  have hy1 : (y 1).val < 256 := (y 1).isLt
  unfold scr
  split
  · next h =>
    by_cases hb : (y 1).val / 128 = 1
    · refine Eq.trans ?_ (congrFun (chain_congr x0 x1 x2 i x8 (b := 1) (j := 8) (hb := by decide) hb.symm rfl) _)
      rw [L8_succ x0 x1 x2 i x8 (by decide : 15 < 16), piece8]
      exact View.read_writes_cons_unit_of_mem v f _ _ _ y _ (off8_eq i (by omega) (by omega)) fun a => by
        match a with
        | ⟨0, _⟩ => exact h
        | ⟨1, _⟩ => show (y 1).val = 128 * 1 + (y 1).val % 128; omega
        | ⟨2, _⟩ => show (y 2).val = 0 + (y 2).val; omega
    · refine Eq.trans ?_ (congrFun (chain_congr x0 x1 x2 i x8 (b := 0) (j := 8) (hb := by decide) (show 0 = (y 1).val / 128 by omega) rfl) _)
      exact read_L8 x0 x1 x2 i x8 v f (n := 14) (by decide) y _ h (show (y 1).val = 128 * 0 + (y 1).val % 128 by omega) rfl
  · next h => rw [read_L8_of_ne x0 x1 x2 i x8 v f y h 16 (Nat.le_refl _), hf]
end

end Cert.KernelIdeal.Body
-- ==== Proof.Scalar.lean ====
module

public import Idealize.ShloMosaic.PureOps.IdealRules
public import Idealize.ShloMosaic.Lib.Pointwise
public import Idealize.ShloMosaic.Lib.IdealHost

/-!
# The scalar mathematics

Facts about single extended reals. Both forms of the gradient of tanh-GELU have one value, which is real and at most four
times the incoming gradient. The bit search of the kernel and the logarithm of the reference give one power of two.
-/

@[expose] public section
noncomputable section
namespace Cert.Scal
open Idealize.ShloMosaic

theorem tanh_coe (r : ℝ) : Ideal.tanh (r : EReal) = ((Real.tanh r : ℝ) : EReal) := rfl
theorem tanh_top : Ideal.tanh ⊤ = 1 := rfl
theorem tanh_bot : Ideal.tanh ⊥ = -1 := rfl
theorem exp2_coe (r : ℝ) : Ideal.exp2 (r : EReal) = ((Real.rpow 2 r : ℝ) : EReal) := rfl
theorem log_coe (r : ℝ) : Ideal.log (r : EReal) = if r ≤ 0 then ⊥ else (Real.log r : EReal) := rfl
theorem liftRound_coe (f : ℝ → ℤ) (r : ℝ) : Ideal.liftRound f (r : EReal) = ((f r : ℝ) : EReal) := rfl

/-! ## The gradient -/

/-- The gradient as the kernel groups it. -/
def dK (k kc g x : EReal) : EReal :=
  g * ((1 + Ideal.tanh (x * (k + kc * (x * x)))) *
    (((1 / 2 : ℝ) : EReal) + (1 - Ideal.tanh (x * (k + kc * (x * x)))) * (((3 / 2 : ℝ) : EReal) * (x * (k + kc * (x * x))) - k * x)))

/-- The gradient as the formula states it. -/
def dR (k c c3 g x : EReal) : EReal :=
  g * (((1 / 2 : ℝ) : EReal) * (1 + Ideal.tanh ((k * x) * (1 + c * (x * x)))) +
    (((((1 / 2 : ℝ) : EReal) * x) * (1 - Ideal.tanh ((k * x) * (1 + c * (x * x))) * Ideal.tanh ((k * x) * (1 + c * (x * x))))) * k)
      * (1 + c3 * (x * x)))

theorem abs_le_two_cosh (u : ℝ) : |u| ≤ 2 * Real.cosh u := by
  have h1 := Real.add_one_le_exp u
  have h2 := Real.add_one_le_exp (-u)
  have h3 := Real.exp_pos u
  have h4 := Real.exp_pos (-u)
  rw [Real.cosh_eq]
  rw [abs_le]
  constructor <;> linarith

theorem tanh_sq (u : ℝ) : 1 - Real.tanh u * Real.tanh u = 1 / (Real.cosh u * Real.cosh u) := by
  have hc := Real.cosh_pos u
  have h := Real.cosh_sq u
  rw [Real.tanh_eq_sinh_div_cosh]
  field_simp
  nlinarith

theorem one_sub_tanh_sq_bound (u : ℝ) : (1 - Real.tanh u * Real.tanh u) * |u| ≤ 2 ∧ 0 ≤ 1 - Real.tanh u * Real.tanh u := by
  have hc := Real.cosh_pos u
  have h1 := Real.one_le_cosh u
  have h2 := abs_le_two_cosh u
  rw [tanh_sq]
  refine ⟨?_, by positivity⟩
  rw [div_mul_eq_mul_div, one_mul, div_le_iff₀ (by positivity)]
  nlinarith

/-- The derivative of tanh-GELU at a real number. -/
def slope (k c x : ℝ) : ℝ :=
  (1 / 2) * (1 + Real.tanh ((k * x) * (1 + c * (x * x)))) +
    ((((1 / 2) * x) * (1 - Real.tanh ((k * x) * (1 + c * (x * x))) * Real.tanh ((k * x) * (1 + c * (x * x))))) * k)
      * (1 + (3 * c) * (x * x))

theorem slope_bound (k c x : ℝ) (hk : 0 < k) (hc : 0 < c) : |slope k c x| ≤ 4 := by
  unfold slope
  set u := (k * x) * (1 + c * (x * x)) with hu
  obtain ⟨hb, h0⟩ := one_sub_tanh_sq_bound u
  have ht := Real.tanh_lt_one u
  have ht' := Real.neg_one_lt_tanh u
  have hx : |x * k * (1 + 3 * c * (x * x))| ≤ 3 * |u| := by
    have hp : 0 ≤ c * (x * x) := mul_nonneg hc.le (mul_self_nonneg x)
    have e1 : |x * k * (1 + 3 * c * (x * x))| = |x| * k * (1 + 3 * (c * (x * x))) := by
      rw [abs_mul, abs_mul, abs_of_pos hk, abs_of_nonneg (by nlinarith : (0 : ℝ) ≤ 1 + 3 * c * (x * x))]; ring
    have e2 : |u| = |x| * k * (1 + c * (x * x)) := by
      rw [hu, abs_mul, abs_mul, abs_of_pos hk, abs_of_nonneg (by linarith : (0 : ℝ) ≤ 1 + c * (x * x))]; ring
    rw [e1, e2]
    have : 0 ≤ |x| * k := by positivity
    nlinarith
  have e : (1 / 2) * x * (1 - Real.tanh u * Real.tanh u) * k * (1 + 3 * c * (x * x))
      = (1 / 2) * ((1 - Real.tanh u * Real.tanh u) * (x * k * (1 + 3 * c * (x * x)))) := by ring
  rw [e]
  have h3 : |(1 - Real.tanh u * Real.tanh u) * (x * k * (1 + 3 * c * (x * x)))| ≤ 6 := by
    rw [abs_mul, abs_of_nonneg h0]
    calc _ ≤ (1 - Real.tanh u * Real.tanh u) * (3 * |u|) := mul_le_mul_of_nonneg_left hx h0
      _ ≤ 6 := by linarith
  rw [abs_le] at h3 ⊢
  constructor <;> linarith [h3.1, h3.2]

theorem dK_coe (k c g x : ℝ) : dK k ((k * c : ℝ) : EReal) g x = ((g * slope k c x : ℝ) : EReal) := by
  unfold dK slope
  have e : ((x : EReal) * ((k : EReal) + ((k * c : ℝ) : EReal) * ((x : EReal) * x))) = (((k * x) * (1 + c * (x * x)) : ℝ) : EReal) := by
    norm_cast; ring
  rw [e]
  rw [tanh_coe]
  norm_cast
  congr 1
  ring

theorem dR_coe (k c g x : ℝ) : dR k c ((3 * c : ℝ) : EReal) g x = ((g * slope k c x : ℝ) : EReal) := by
  unfold dR slope
  have e : (((k : EReal) * x) * (1 + (c : EReal) * ((x : EReal) * x))) = (((k * x) * (1 + c * (x * x)) : ℝ) : EReal) := by
    norm_cast
  rw [e]
  rw [tanh_coe]
  norm_cast

theorem u_top (k kc : ℝ) (hk : 0 < k) (hc : 0 < kc) : (⊤ : EReal) * ((k : EReal) + (kc : EReal) * (⊤ * ⊤)) = ⊤ := by
  rw [EReal.top_mul_top, EReal.coe_mul_top_of_pos hc, EReal.coe_add_top, EReal.top_mul_top]

theorem u_bot (k kc : ℝ) (hk : 0 < k) (hc : 0 < kc) : (⊥ : EReal) * ((k : EReal) + (kc : EReal) * (⊥ * ⊥)) = ⊥ := by
  rw [EReal.bot_mul_bot, EReal.coe_mul_top_of_pos hc, EReal.coe_add_top, EReal.bot_mul_top]

theorem v_top (k c : ℝ) (hk : 0 < k) (hc : 0 < c) : ((k : EReal) * ⊤) * (1 + (c : EReal) * (⊤ * ⊤)) = ⊤ := by
  rw [EReal.top_mul_top, EReal.coe_mul_top_of_pos hc, EReal.coe_mul_top_of_pos hk]
  have : (1 : EReal) + ⊤ = ⊤ := EReal.coe_add_top 1
  rw [this, EReal.top_mul_top]

theorem v_bot (k c : ℝ) (hk : 0 < k) (hc : 0 < c) : ((k : EReal) * ⊥) * (1 + (c : EReal) * (⊥ * ⊥)) = ⊥ := by
  rw [EReal.bot_mul_bot, EReal.coe_mul_top_of_pos hc, EReal.coe_mul_bot_of_pos hk]
  have : (1 : EReal) + ⊤ = ⊤ := EReal.coe_add_top 1
  rw [this, EReal.bot_mul_top]

theorem one_sub_one : (1 : EReal) - 1 = 0 := by
  have : ((1 : ℝ) : EReal) - ((1 : ℝ) : EReal) = ((0 : ℝ) : EReal) := by norm_cast <;> simp
  simpa using this

theorem half_mul_two : ((1 / 2 : ℝ) : EReal) * (1 + 1) = 1 := by
  have : ((1 / 2 : ℝ) : EReal) * (((1 : ℝ) : EReal) + ((1 : ℝ) : EReal)) = ((1 : ℝ) : EReal) := by norm_cast <;> norm_num
  simpa using this

theorem one_add_neg_one : (1 : EReal) + -1 = 0 := by
  have : ((1 : ℝ) : EReal) + ((-1 : ℝ) : EReal) = ((0 : ℝ) : EReal) := by norm_cast <;> norm_num
  simpa using this

theorem neg_mul_neg_one : (-1 : EReal) * -1 = 1 := by
  have : ((-1 : ℝ) : EReal) * ((-1 : ℝ) : EReal) = ((1 : ℝ) : EReal) := by norm_cast <;> norm_num
  simpa using this

/-- Both groupings of the gradient are one real number, at most four times the incoming gradient. -/
theorem grad_eq (k c g : ℝ) (hk : 0 < k) (hc : 0 < c) (x : EReal) :
    ∃ d : ℝ, dK k ((k * c : ℝ) : EReal) g x = (d : EReal) ∧ dR k c ((3 * c : ℝ) : EReal) g x = (d : EReal) ∧ |d| ≤ 4 * |g| := by
  have hkc : 0 < k * c := mul_pos hk hc
  induction x with
  | coe x =>
    refine ⟨_, dK_coe k c g x, dR_coe k c g x, ?_⟩
    rw [abs_mul]
    nlinarith [slope_bound k c x hk hc, abs_nonneg g]
  | top =>
    refine ⟨g, ?_, ?_, by nlinarith [abs_nonneg g]⟩
    · unfold dK
      rw [u_top k (k * c) hk hkc, tanh_top]
      rw [one_sub_one, zero_mul, add_zero, mul_comm (1 + 1 : EReal), half_mul_two, mul_one]
    · unfold dR
      rw [v_top k c hk hc, tanh_top]
      rw [mul_one, one_sub_one, mul_zero, zero_mul, zero_mul, add_zero, half_mul_two, mul_one]
  | bot =>
    refine ⟨0, ?_, ?_, by simp⟩
    · unfold dK
      rw [u_bot k (k * c) hk hkc, tanh_bot]
      rw [one_add_neg_one, zero_mul, mul_zero, EReal.coe_zero]
    · unfold dR
      rw [v_bot k c hk hc, tanh_bot]
      rw [neg_mul_neg_one, one_sub_one, one_add_neg_one, mul_zero, mul_zero, zero_mul, zero_mul, add_zero, mul_zero, EReal.coe_zero]

/-! ## The power of two -/

/-- One step of the search: set a bit of the exponent when the number it gives is at most `v`. -/
def stp (v : EReal) (w f : BitVec 32) : BitVec 32 :=
  if Ideal.ofBits .f32 (f + w) ≤ v then f + w else f

/-- The exponent bits of `v`, found bit by bit. -/
def fld (v : EReal) : BitVec 32 :=
  stp v 8388608#32 (stp v 16777216#32 (stp v 33554432#32 (stp v 67108864#32 (stp v 134217728#32 (stp v 268435456#32
    (stp v 536870912#32 (stp v 1073741824#32 0#32)))))))

/-- The scale the kernel stores. -/
def sclK (v : EReal) : EReal := if fld v = 0#32 then 1 else Ideal.ofBits .f32 (fld v + 8388608#32)
/-- The factor the kernel multiplies by. -/
def invK (v : EReal) : EReal := if fld v = 0#32 then 1 else Ideal.ofBits .f32 (2122317824#32 - fld v)

/-- The exponent of the reference. -/
def expR (v : EReal) : EReal :=
  if v < (((2 : ℝ) ^ (-126 : ℤ) : ℝ) : EReal) then 0 else
    Ideal.liftRound Int.floor (Ideal.div (Ideal.log v) (Ideal.log ((2 : ℝ) : EReal))) + 1

/-- The float32 word with exponent field `k` and no fraction. -/
def ew (k : ℕ) : BitVec 32 := BitVec.ofNat 32 (k * 8388608)

theorem ew_fields : ∀ k : Fin 256, ((ew k.val).extractLsb' 23 8).toNat = k.val ∧ ((ew k.val).extractLsb' 0 23).toNat = 0 ∧
    ((ew k.val).extractLsb' 31 1 == 1#1) = false := by decide +kernel

theorem ofBits_ew (k : ℕ) (h1 : 1 ≤ k) (h2 : k ≤ 254) : Ideal.ofBits .f32 (ew k) = (((2 : ℝ) ^ ((k : ℤ) - 127) : ℝ) : EReal) := by
  obtain ⟨a, b, d⟩ := ew_fields ⟨k, by omega⟩
  simp only at a b d
  have e1 : ¬ (k = 2 ^ 8 - 1) := by omega
  have e2 : ¬ (k = 0) := by omega
  simp only [Ideal.ofBits, Ideal.ieee, a, b, d]
  rw [if_neg e1, if_neg e2]
  congr 1
  have h23 : ((2 ^ 23 + 0 : ℕ) : ℝ) = (2 : ℝ) ^ (23 : ℤ) := by norm_num
  rw [h23]
  simp only [Bool.false_eq_true, if_false, one_mul]
  rw [ ← zpow_add₀ (by norm_num)]
  congr 1
  push_cast
  ring

theorem ofBits_ew_top : Ideal.ofBits .f32 (ew 255) = ⊤ := by
  obtain ⟨a, b, d⟩ := ew_fields ⟨255, by omega⟩
  simp only at a b d
  simp [Ideal.ofBits, Ideal.ieee, a, b, d]

theorem ew_add (k l : ℕ) : ew k + ew l = ew (k + l) := by
  unfold ew
  rw [← BitVec.ofNat_add, Nat.add_mul]

theorem two_zpow_pos (n : ℤ) : (0 : ℝ) < (2 : ℝ) ^ n := by positivity

/-- What is known after the bits of weight `2^b` and more. -/
def Found (v : ℝ) (n : ℕ) (f : BitVec 32) : Prop :=
  ∃ k : ℕ, f = ew k ∧ k + n ≤ 256 ∧ (k = 0 ∨ (2 : ℝ) ^ ((k : ℤ) - 127) ≤ v) ∧ v < (2 : ℝ) ^ (((k + n : ℕ) : ℤ) - 127)

theorem found_stp (v : ℝ) (hv : v < (2 : ℝ) ^ (126 : ℤ)) (n : ℕ) (hn : 1 ≤ n) (f : BitVec 32) (h : Found v (2 * n) f) :
    Found v n (stp v (ew n) f) := by
  obtain ⟨k, rfl, hk, hlo, hhi⟩ := h
  unfold stp
  rw [ew_add]
  by_cases h255 : k + n = 255
  · rw [h255, ofBits_ew_top, if_neg (by simp)]
    refine ⟨k, rfl, by omega, hlo, ?_⟩
    rw [h255]
    exact hv.trans_le (zpow_le_zpow_right₀ (by norm_num) (by norm_num))
  · rw [ofBits_ew (k + n) (by omega) (by omega)]
    by_cases hc : (2 : ℝ) ^ (((k + n : ℕ) : ℤ) - 127) ≤ v
    · rw [if_pos (by exact_mod_cast hc)]
      refine ⟨k + n, rfl, by omega, .inr hc, ?_⟩
      rwa [show k + n + n = k + 2 * n by ring]
    · rw [if_neg (by intro h; exact hc (by exact_mod_cast h))]
      exact ⟨k, rfl, by omega, hlo, not_le.mp hc⟩

theorem w0 : 8388608#32 = ew 1 := by decide
theorem w1 : 16777216#32 = ew 2 := by decide
theorem w2 : 33554432#32 = ew 4 := by decide
theorem w3 : 67108864#32 = ew 8 := by decide
theorem w4 : 134217728#32 = ew 16 := by decide
theorem w5 : 268435456#32 = ew 32 := by decide
theorem w6 : 536870912#32 = ew 64 := by decide
theorem w7 : 1073741824#32 = ew 128 := by decide
theorem z0 : 0#32 = ew 0 := by decide
theorem ew_zero : ew 0 = 0#32 := z0.symm

theorem fld_found (v : ℝ) (hv : v < (2 : ℝ) ^ (126 : ℤ)) : Found v 1 (fld v) := by
  have h0 : Found v (2 * 128) 0#32 := ⟨0, z0, by omega, .inl rfl, hv.trans_le (zpow_le_zpow_right₀ (by norm_num) (by norm_num))⟩
  have h1 := found_stp v hv 128 (by omega) _ h0
  have h2 := found_stp v hv 64 (by omega) _ h1
  have h3 := found_stp v hv 32 (by omega) _ h2
  have h4 := found_stp v hv 16 (by omega) _ h3
  have h5 := found_stp v hv 8 (by omega) _ h4
  have h6 := found_stp v hv 4 (by omega) _ h5
  have h7 := found_stp v hv 2 (by omega) _ h6
  have h8 := found_stp v hv 1 (by omega) _ h7
  unfold fld
  rw [w0, w1, w2, w3, w4, w5, w6, w7]
  exact h8

theorem exp2_int (n : ℤ) : Ideal.exp2 (((n : ℤ) : ℝ) : EReal) = (((2 : ℝ) ^ n : ℝ) : EReal) := by
  rw [exp2_coe]
  congr 1
  exact Real.rpow_intCast 2 n

theorem log_floor (v : ℝ) (n : ℤ) (h1 : (2 : ℝ) ^ n ≤ v) (h2 : v < (2 : ℝ) ^ (n + 1)) :
    Ideal.liftRound Int.floor (Ideal.div (Ideal.log (v : EReal)) (Ideal.log ((2 : ℝ) : EReal))) = ((n : ℝ) : EReal) := by
  have hp := two_zpow_pos n
  have hv : 0 < v := hp.trans_le h1
  have hl : 0 < Real.log 2 := Real.log_pos (by norm_num)
  rw [log_coe, log_coe, if_neg (by linarith), if_neg (by norm_num)]
  unfold Ideal.div
  rw [if_neg (by exact_mod_cast hl.ne'), ← EReal.coe_inv, ← EReal.coe_mul]
  rw [liftRound_coe]
  congr 2
  rw [Int.floor_eq_iff, ← div_eq_mul_inv]
  constructor
  · rw [le_div_iff₀ hl, ← Real.log_zpow]
    exact Real.log_le_log hp h1
  · rw [div_lt_iff₀ hl]
    have := Real.log_lt_log hv h2
    rw [Real.log_zpow] at this
    push_cast at this
    exact this

theorem expR_tiny (v : ℝ) (h : v < (2 : ℝ) ^ (-126 : ℤ)) : expR v = 0 := by
  unfold expR
  rw [if_pos (by exact_mod_cast h)]

theorem expR_normal (v : ℝ) (n : ℤ) (h0 : (2 : ℝ) ^ (-126 : ℤ) ≤ v) (h1 : (2 : ℝ) ^ n ≤ v) (h2 : v < (2 : ℝ) ^ (n + 1)) :
    expR v = (((n + 1 : ℤ) : ℝ) : EReal) := by
  unfold expR
  rw [if_neg (by rw [not_lt]; exact_mod_cast h0), log_floor v n h1 h2]
  push_cast
  rfl

theorem ew_eq_zero (k : ℕ) (h : k ≤ 255) : ew k = 0#32 ↔ k = 0 := by
  constructor
  · intro e
    have := congrArg BitVec.toNat e
    simp only [ew, BitVec.toNat_ofNat] at this
    omega
  · rintro rfl; exact ew_zero

theorem w253 : 2122317824#32 = ew 253 := by decide

theorem ew_sub (k : ℕ) (h : k ≤ 253) : 2122317824#32 - ew k = ew (253 - k) := by
  have e : ew 253 = ew (253 - k) + ew k := by rw [ew_add, Nat.sub_add_cancel h]
  rw [w253, e, BitVec.add_sub_cancel]

/-- The bit search gives the power of two of the logarithm, and its inverse. -/
theorem scale_eq (v : ℝ) (hv : v < (2 : ℝ) ^ (126 : ℤ)) :
    sclK v = Ideal.exp2 (expR v) ∧ invK v = Ideal.exp2 (0 - expR v) := by
  obtain ⟨k, hf, hk, hlo, hhi⟩ := fld_found v hv
  unfold sclK invK
  rw [hf]
  have exp2_zero : Ideal.exp2 (0 : EReal) = 1 := by
    have := exp2_int 0
    simpa using this
  rcases Nat.eq_zero_or_pos k with rfl | hpos
  · have : v < (2 : ℝ) ^ (-126 : ℤ) := by simpa using hhi
    rw [expR_tiny v this, if_pos ew_zero, if_pos ew_zero, sub_zero, exp2_zero]
    exact ⟨rfl, rfl⟩
  · have hlo' := hlo.resolve_left (by omega)
    have hk252 : k ≤ 252 := by
      by_contra hh
      have : (2 : ℝ) ^ (126 : ℤ) ≤ (2 : ℝ) ^ ((k : ℤ) - 127) := zpow_le_zpow_right₀ (by norm_num) (by omega)
      linarith
    have hhi' : v < (2 : ℝ) ^ (((k : ℤ) - 127) + 1) := by
      have e : (((k + 1 : ℕ) : ℤ) - 127) = ((k : ℤ) - 127) + 1 := by push_cast; ring
      rwa [e] at hhi
    have hmin : (2 : ℝ) ^ (-126 : ℤ) ≤ v :=
      (zpow_le_zpow_right₀ (by norm_num) (by omega) : (2 : ℝ) ^ (-126 : ℤ) ≤ (2 : ℝ) ^ ((k : ℤ) - 127)).trans hlo'
    have hne : ¬ (ew k = 0#32) := by rw [ew_eq_zero k (by omega)]; omega
    rw [if_neg hne, if_neg hne, expR_normal v _ hmin hlo' hhi', ew_sub k (by omega),
      w0, ew_add, ofBits_ew _ (by omega) (by omega), ofBits_ew _ (by omega) (by omega)]
    have en : (0 : EReal) - (((((k : ℤ) - 127 + 1 : ℤ) : ℤ) : ℝ) : EReal) = (((-((k : ℤ) - 127 + 1) : ℤ) : ℝ) : EReal) := by
      rw [zero_sub]; push_cast; norm_cast
    rw [en, exp2_int, exp2_int]
    constructor
    · congr 2; push_cast; ring
    · congr 2; push_cast [Nat.cast_sub (show k ≤ 253 by omega)]; ring

/-! ## The largest magnitude of a group -/

theorem absf_coe (d : ℝ) : (FloatOps.absf (F := Ideal) (φ := .f32) (d : EReal) : EReal) = ((|d| : ℝ) : EReal) := by
  show max (d : EReal) (-(d : EReal)) = _
  rw [← EReal.coe_neg, abs_eq_max_neg]
  exact (EReal.coe_strictMono.monotone.map_max).symm

/-- The largest magnitude of finitely many reals that are at most `M` in magnitude is a real between zero and `M`. -/
theorem fold_abs {ι : Type} [Fintype ι] [Nonempty ι] (f : ι → EReal) (M : ℝ) (h : ∀ i, ∃ d : ℝ, f i = (d : EReal) ∧ |d| ≤ M) :
    ∃ a : ℝ, Finset.fold max (⊥ : EReal) (fun i => (FloatOps.absf (F := Ideal) (φ := .f32) (f i) : EReal)) Finset.univ = (a : EReal) ∧ 0 ≤ a ∧ a ≤ M := by
  choose d hd hM using h
  have e : (fun i => (FloatOps.absf (F := Ideal) (φ := .f32) (f i) : EReal)) = fun i => ((|d i| : ℝ) : EReal) := by
    funext i; rw [hd, absf_coe]
  rw [e]
  obtain ⟨i, _, hi⟩ := Finset.exists_max_image (Finset.univ : Finset ι) (fun i => |d i|) Finset.univ_nonempty
  refine ⟨|d i|, ?_, abs_nonneg _, hM i⟩
  apply le_antisymm
  · rw [Finset.fold_max_le]
    exact ⟨bot_le, fun x hx => by exact_mod_cast hi x hx⟩
  · rw [Finset.le_fold_max]
    exact .inr ⟨i, Finset.mem_univ _, le_rfl⟩

/-! ## The constants -/

theorem ofBits_half : Ideal.ofBits .f32 1056964608#32 = ((1 / 2 : ℝ) : EReal) := by
  simp [Ideal.ofBits, Ideal.ieee, -EReal.coe_mul]; norm_num
theorem ofBits_three_halves : Ideal.ofBits .f32 1069547520#32 = ((3 / 2 : ℝ) : EReal) := by
  simp [Ideal.ofBits, Ideal.ieee, -EReal.coe_mul]; norm_num
theorem ofBits_two : Ideal.ofBits .f32 1073741824#32 = ((2 : ℝ) : EReal) := by
  simp [Ideal.ofBits, Ideal.ieee, -EReal.coe_mul]; norm_num
theorem ofBits_one : Ideal.ofBits .f32 1065353216#32 = 1 := by
  simp [Ideal.ofBits, Ideal.ieee, -EReal.coe_mul]; norm_num
theorem ofBits_min : Ideal.ofBits .f32 8388608#32 = (((2 : ℝ) ^ (-126 : ℤ) : ℝ) : EReal) := by
  rw [w0, ofBits_ew 1 (by omega) (by omega)]; norm_num
theorem ofBits_bot : Ideal.ofBits .f32 4286578688#32 = ⊥ := by
  simp [Ideal.ofBits, Ideal.ieee]
/-- The factor `1 / 57344`, rounded to float32. -/
def r57 : ℝ := 9586981 * (2 : ℝ) ^ (-39 : ℤ)
theorem ofBits_r57 : Ideal.ofBits .f32 932333861#32 = (r57 : EReal) := by
  simp [Ideal.ofBits, Ideal.ieee, r57, -EReal.coe_mul]

/-- The scaled largest magnitude stays under `2^126`. -/
theorem scaled_bound (a : ℝ) (ha : a ≤ 4 * (2 : ℝ) ^ (128 : ℤ)) : a * r57 < (2 : ℝ) ^ (126 : ℤ) := by
  have hr : 0 < r57 := by unfold r57; positivity
  calc a * r57 ≤ 4 * (2 : ℝ) ^ (128 : ℤ) * r57 := mul_le_mul_of_nonneg_right ha hr.le
    _ < (2 : ℝ) ^ (126 : ℤ) := by unfold r57; norm_num

end Cert.Scal
-- ==== Proof.Spec.lean ====
module

public import proofs.«01_k».proof.Proof.Scalar
public import Idealize.ShloMosaic.Lib.ValueIdx

/-!
# The five results over the gradient matrix

`D r c` is the gradient of row `r` and column `c`; a group is 128 neighbours along a row or along a column.
-/

@[expose] public section
noncomputable section
namespace Cert.Spec
open Idealize.ShloMosaic Cert.Scal

/-- Column `l` of column group `g`. -/
def gcol (g : Fin 192) (l : Fin 128) : Fin 24576 := ⟨128 * g.val + l.val, by omega⟩
/-- Row `k` of row block `b`. -/
def brow (b : Fin 2) (k : Fin 128) : Fin 256 := ⟨128 * b.val + k.val, by omega⟩
/-- The column group of a column. -/
def grp (c : Fin 24576) : Fin 192 := ⟨c.val / 128, by omega⟩
/-- The row block of a row. -/
def blk (r : Fin 256) : Fin 2 := ⟨r.val / 128, by omega⟩

variable (D : Fin 256 → Fin 24576 → EReal)

/-- The largest magnitude of row `r` in column group `g`. -/
def rowMax (r : Fin 256) (g : Fin 192) : EReal :=
  Finset.fold max (⊥ : EReal) (fun l : Fin 128 => (FloatOps.absf (F := Ideal) (φ := .f32) (D r (gcol g l)) : EReal)) Finset.univ
/-- The largest magnitude of column `c` in row block `b`. -/
def colMax (b : Fin 2) (c : Fin 24576) : EReal :=
  Finset.fold max (⊥ : EReal) (fun k : Fin 128 => (FloatOps.absf (F := Ideal) (φ := .f32) (D (brow b k) c) : EReal)) Finset.univ
/-- The sum of column `c`. -/
def colSum (c : Fin 24576) : EReal := (∑ k : Fin 128, D (brow 0 k) c) + ∑ k : Fin 128, D (brow 1 k) c
/-- The clip of the eight-bit cast. -/
def clip (z : EReal) : EReal := min (Ideal.ofBits .f32 1197473792#32) (max (Ideal.ofBits .f32 3344957440#32) z)

/-- The kernel's results. -/
def rsK (r : Fin 256) (g : Fin 192) : EReal := sclK (rowMax D r g * (r57 : EReal))
def rcK (r : Fin 256) (c : Fin 24576) : EReal := clip (D r c * invK (rowMax D r (grp c) * (r57 : EReal)))
def csK (b : Fin 2) (c : Fin 24576) : EReal := sclK (colMax D b c * (r57 : EReal))
def ccK (c : Fin 24576) (r : Fin 256) : EReal := clip (D r c * invK (colMax D (blk r) c * (r57 : EReal)))

/-- The reference's results. -/
def rsR (r : Fin 256) (g : Fin 192) : EReal := Ideal.exp2 (expR (rowMax D r g * (r57 : EReal)))
def rcR (r : Fin 256) (c : Fin 24576) : EReal := clip (D r c * Ideal.exp2 (0 - expR (rowMax D r (grp c) * (r57 : EReal))))
def csR (b : Fin 2) (c : Fin 24576) : EReal := Ideal.exp2 (expR (colMax D b c * (r57 : EReal)))
def ccR (c : Fin 24576) (r : Fin 256) : EReal := clip (D r c * Ideal.exp2 (0 - expR (colMax D (blk r) c * (r57 : EReal))))

section Eq
variable {D} (hD : ∀ r c, ∃ d : ℝ, D r c = (d : EReal) ∧ |d| ≤ 4 * (2 : ℝ) ^ (128 : ℤ))
include hD

theorem row_scale (r : Fin 256) (g : Fin 192) : sclK (rowMax D r g * (r57 : EReal)) = Ideal.exp2 (expR (rowMax D r g * (r57 : EReal))) ∧
    invK (rowMax D r g * (r57 : EReal)) = Ideal.exp2 (0 - expR (rowMax D r g * (r57 : EReal))) := by
  obtain ⟨a, ha, _, hM⟩ := fold_abs (fun l : Fin 128 => D r (gcol g l)) _ fun l => hD r (gcol g l)
  have e : rowMax D r g = (a : EReal) := ha
  rw [e, ← EReal.coe_mul]
  exact scale_eq _ (scaled_bound a hM)

theorem col_scale (b : Fin 2) (c : Fin 24576) : sclK (colMax D b c * (r57 : EReal)) = Ideal.exp2 (expR (colMax D b c * (r57 : EReal))) ∧
    invK (colMax D b c * (r57 : EReal)) = Ideal.exp2 (0 - expR (colMax D b c * (r57 : EReal))) := by
  obtain ⟨a, ha, _, hM⟩ := fold_abs (fun k : Fin 128 => D (brow b k) c) _ fun k => hD (brow b k) c
  have e : colMax D b c = (a : EReal) := ha
  rw [e, ← EReal.coe_mul]
  exact scale_eq _ (scaled_bound a hM)

theorem rs_eq (r : Fin 256) (g : Fin 192) : rsK D r g = rsR D r g := (row_scale hD r g).1
theorem rc_eq (r : Fin 256) (c : Fin 24576) : rcK D r c = rcR D r c := by unfold rcK rcR; rw [(row_scale hD r (grp c)).2]
theorem cs_eq (b : Fin 2) (c : Fin 24576) : csK D b c = csR D b c := (col_scale hD b c).1
theorem cc_eq (c : Fin 24576) (r : Fin 256) : ccK D c r = ccR D c r := by unfold ccK ccR; rw [(col_scale hD (blk r) c).2]
end Eq

end Cert.Spec
-- ==== Proof.TileValues.lean ====
module

public import proofs.«01_k».proof.Proof.Tiles
public import proofs.«01_k».proof.Proof.Spec

/-!
# What a tile of the kernel computes, element by element
-/

@[expose] public section
set_option maxRecDepth 16384
noncomputable section
namespace Cert.KernelIdeal.Body
open Cert.KernelIdeal Cert.KernelIdeal.Gen
open Idealize.ShloMosaic Idealize.ShloMosaic.TcCoe Idealize.ShloMosaic.Tactic
open Cert.Scal Cert.Spec

/-- `√(2/π)` and the cubic coefficient. -/
def kR : ℝ := Real.sqrt (2 * Real.pi⁻¹)
def cR : ℝ := 8943 / 200000

theorem named_k : (Named.named (F := Ideal) (φ := .f32) κ "gelu_k" 1061962282#32 : EReal) = (kR : EReal) :=
  IdealRules.named_const.ideal_named_scalar _ _ _ _ rfl
theorem named_kc : (Named.named (F := Ideal) (φ := .f32) κ "gelu_kc" 1024598649#32 : EReal) = ((kR * cR : ℝ) : EReal) :=
  IdealRules.named_const.ideal_named_scalar _ _ _ _ rfl

section Pay
variable (g : Vec Ideal S128x128 .bf16) (q : Vec Ideal S128x128 .fp8e4m3) (s : Vec Ideal S1x128x1 .f32)

theorem pay3_at (r l : Fin 128) :
    (k0_pay3 g q s (ix2 r l) : EReal) = dK kR ((kR * cR : ℝ) : EReal) (g (ix2 r l)) (q (ix2 r l) * s (ix3 0 r 0)) := by
  pointwise [k0_pay3]
  rw [named_k, named_kc, ofBits_half, ofBits_three_halves]
  rfl

theorem pay4_at (l : Fin 128) : (k0_pay4 g q s (ix2 0 l) : EReal) = ∑ x : Fin 128, (k0_pay3 g q s (ix2 x l) : EReal) := by
  pointwise [k0_pay4]

theorem pay6_at (r : Fin 128) : (k0_pay6 g q s (ix2 r 0) : EReal) =
    Finset.fold max (⊥ : EReal) (fun x : Fin 128 => (FloatOps.absf (F := Ideal) (φ := .f32) (k0_pay3 g q s (ix2 r x)) : EReal)) Finset.univ := by
  pointwise [k0_pay6, k0_pay5]
  rw [ofBits_bot]

theorem pay7_at (l : Fin 128) : (k0_pay7 g q s (ix2 0 l) : EReal) =
    Finset.fold max (⊥ : EReal) (fun x : Fin 128 => (FloatOps.absf (F := Ideal) (φ := .f32) (k0_pay3 g q s (ix2 x l)) : EReal)) Finset.univ := by
  pointwise [k0_pay7, k0_pay5]
  rw [ofBits_bot]
end Pay

/-- One step of the search on a whole vector. -/
def stpV {S : Shape} (v : FVec Ideal S .f32) (w : BitVec 32) (f : IVec S 32) : IVec S 32 :=
  select (cmpf .olt v (bitcastToFloat .f32 (addi f (broadcast S w)))) f (addi f (broadcast S w))

theorem select_ite {α : Type} (p : Prop) [Decidable p] (a b : α) :
    Scalar.select (BitVec.ofBool (decide p)) a b = if p then a else b := by
  by_cases h : p <;> simp [h, Scalar.select]

theorem stpV_at {S : Shape} (v : FVec Ideal S .f32) (w : BitVec 32) (f : IVec S 32) (i : S.Idx) : stpV v w f i = stp (v i) w (f i) := by
  refine Eq.trans (show _ = _ from rfl) ((select_ite ((v i : EReal) < Ideal.ofBits .f32 (f i + w)) (f i) (f i + w)).trans ?_)
  unfold stp
  by_cases h : (v i : EReal) < Ideal.ofBits .f32 (f i + w)
  · rw [if_pos h, if_neg (not_le.mpr h)]
  · rw [if_neg h, if_pos (not_lt.mp h)]

/-- The whole search on a vector. -/
def fldV {S : Shape} (v : FVec Ideal S .f32) : IVec S 32 :=
  stpV v 8388608#32 (stpV v 16777216#32 (stpV v 33554432#32 (stpV v 67108864#32 (stpV v 134217728#32 (stpV v 268435456#32
    (stpV v 536870912#32 (stpV v 1073741824#32 (broadcast S 0#32))))))))

theorem fldV_at {S : Shape} (v : FVec Ideal S .f32) (i : S.Idx) : fldV v i = fld (v i) := by
  unfold fldV fld
  rw [stpV_at, stpV_at, stpV_at, stpV_at, stpV_at, stpV_at, stpV_at, stpV_at]
  rfl

theorem pay8_eq (v : FVec Ideal S128x1 .f32) (c : Ideal .f32) : k0_pay8 v c = fldV (mulf v (broadcast S128x1 c)) := rfl

theorem pay18_eq (v : FVec Ideal S1x128 .f32) :
    k0_pay18 (k0_pay14 v) (k0_pay15 v) (k0_pay16 v) (k0_pay17 v) = fldV (k0_pay14 v) := rfl

theorem select_eq_zero (f a b : BitVec 32) : Scalar.select (IntOp.cmpi .eq f 0#32) a b = if f = 0#32 then a else b := by
  by_cases h : f = 0#32
  · subst h; rfl
  · rw [if_neg h]
    have : (f == 0#32) = false := by simpa using h
    simp [Scalar.select, IntOp.cmpi, this]

theorem subi_eq (a b : BitVec 32) : IntOp.subi a b = a - b := rfl

theorem sclK_eq (v : EReal) : (Ideal.ofBits .f32 (if fld v = 0#32 then 1065353216#32 else fld v + 8388608#32) : EReal) = sclK v := by
  unfold sclK; split
  · exact ofBits_one
  · rfl
theorem invK_eq (v : EReal) : (Ideal.ofBits .f32 (if fld v = 0#32 then 1065353216#32 else 2122317824#32 - fld v) : EReal) = invK v := by
  unfold invK; split
  · exact ofBits_one
  · rfl

theorem rowScale_at (v : FVec Ideal S128x1 .f32) (i : S128x1.Idx) :
    (k0_pay12 (F := Ideal) (k0_pay9 v (Scalar.ofBits .f32 0x37924925#32)) (k0_pay10 v (Scalar.ofBits .f32 0x37924925#32)) k0_pay11 i : EReal) =
      sclK ((v i : EReal) * (r57 : EReal)) := by
  have e : (k0_pay8 v (Scalar.ofBits .f32 0x37924925#32)) i = fld ((v i : EReal) * (r57 : EReal)) := by
    rw [pay8_eq, fldV_at, ← ofBits_r57]; rfl
  have e2 : (k0_pay12 (F := Ideal) (k0_pay9 v (Scalar.ofBits .f32 0x37924925#32)) (k0_pay10 v (Scalar.ofBits .f32 0x37924925#32)) k0_pay11 i : EReal) =
    Ideal.ofBits .f32 (Scalar.select (IntOp.cmpi .eq (k0_pay8 v (Scalar.ofBits .f32 0x37924925#32) i) 0#32) 1065353216#32
      (k0_pay8 v (Scalar.ofBits .f32 0x37924925#32) i + 8388608#32)) := rfl
  rw [e2, select_eq_zero, e, sclK_eq]

theorem rowInv_at (v : FVec Ideal S128x1 .f32) (i : S128x1.Idx) :
    (k0_pay13 (F := Ideal) (k0_pay8 v (Scalar.ofBits .f32 0x37924925#32)) (k0_pay9 v (Scalar.ofBits .f32 0x37924925#32)) i : EReal) =
      invK ((v i : EReal) * (r57 : EReal)) := by
  have e : (k0_pay8 v (Scalar.ofBits .f32 0x37924925#32)) i = fld ((v i : EReal) * (r57 : EReal)) := by
    rw [pay8_eq, fldV_at, ← ofBits_r57]; rfl
  have e2 : (k0_pay13 (F := Ideal) (k0_pay8 v (Scalar.ofBits .f32 0x37924925#32)) (k0_pay9 v (Scalar.ofBits .f32 0x37924925#32)) i : EReal) =
    Ideal.ofBits .f32 (Scalar.select (IntOp.cmpi .eq (k0_pay8 v (Scalar.ofBits .f32 0x37924925#32) i) 0#32) 1065353216#32
      (2122317824#32 - k0_pay8 v (Scalar.ofBits .f32 0x37924925#32) i)) := rfl
  rw [e2, select_eq_zero, e, invK_eq]

theorem col_fld (v : FVec Ideal S1x128 .f32) (i : S1x128.Idx) :
    k0_pay18 (k0_pay14 v) (k0_pay15 v) (k0_pay16 v) (k0_pay17 v) i = fld ((v i : EReal) * (r57 : EReal)) := by
  rw [pay18_eq, fldV_at, ← ofBits_r57]; rfl

theorem colScale_at (v : FVec Ideal S1x128 .f32) (i : S1x128.Idx) :
    (k0_pay20 (k0_pay14 v) (k0_pay15 v) (k0_pay16 v) (k0_pay17 v) i : EReal) = sclK ((v i : EReal) * (r57 : EReal)) := by
  have e2 : (k0_pay20 (k0_pay14 v) (k0_pay15 v) (k0_pay16 v) (k0_pay17 v) i : EReal) =
    Ideal.ofBits .f32 (Scalar.select (IntOp.cmpi .eq (k0_pay18 (k0_pay14 v) (k0_pay15 v) (k0_pay16 v) (k0_pay17 v) i) 0#32) 1065353216#32
      (k0_pay18 (k0_pay14 v) (k0_pay15 v) (k0_pay16 v) (k0_pay17 v) i + 8388608#32)) := rfl
  rw [e2, select_eq_zero, col_fld, sclK_eq]

theorem pay21_at (d : FVec Ideal S128x128 .f32) (v : FVec Ideal S128x1 .f32) (r l : Fin 128) :
    (k0_pay21 d v (ix2 r l) : EReal) = clip ((d (ix2 r l) : EReal) * v (ix2 r 0)) := by
  pointwise [k0_pay21]
  rfl

theorem pay22_at (d : FVec Ideal S128x128 .f32) (v : FVec Ideal S1x128 .f32) (l r : Fin 128) :
    (k0_pay22 d (k0_pay14 v) (k0_pay15 v) (k0_pay16 v) (k0_pay17 v) (ix2 l r) : EReal) =
      clip ((d (ix2 r l) : EReal) * invK ((v (ix2 0 l) : EReal) * (r57 : EReal))) := by
  have e2 : (k0_pay22 d (k0_pay14 v) (k0_pay15 v) (k0_pay16 v) (k0_pay17 v) (ix2 l r) : EReal) =
    clip ((d (ix2 r l) : EReal) * Ideal.ofBits .f32 (Scalar.select (k0_pay19 (k0_pay14 v) (k0_pay15 v) (k0_pay16 v) (k0_pay17 v) (ix2 0 l)) 1065353216#32
      (IntOp.subi 2122317824#32 (k0_pay18 (k0_pay14 v) (k0_pay15 v) (k0_pay16 v) (k0_pay17 v) (ix2 0 l))))) := by
    generalize k0_pay14 v = a
    generalize k0_pay15 v = b
    generalize k0_pay16 v = b2
    generalize k0_pay17 v = b3
    pointwise [k0_pay22]
    rfl
  have e3 : (k0_pay19 (k0_pay14 v) (k0_pay15 v) (k0_pay16 v) (k0_pay17 v) (ix2 0 l)) =
    IntOp.cmpi .eq (k0_pay18 (k0_pay14 v) (k0_pay15 v) (k0_pay16 v) (k0_pay17 v) (ix2 0 l)) 0#32 := rfl
  rw [e2, e3, select_eq_zero, subi_eq, col_fld, invK_eq]

end Cert.KernelIdeal.Body
-- ==== Proof.BodyRun.lean ====
/- One run of the body at a grid point: what it leaves in every output and in the scratch. -/
module

public import proofs.«01_k».proof.Proof.Gen.KernelIdeal.Frame
public import proofs.«01_k».proof.Proof.Gen.KernelIdeal.Skeleton
public import proofs.«01_k».proof.Proof.Tiles
public import Idealize.ShloMosaic.Lib.Claim
public import Idealize.ShloMosaic.Lib.UnfoldOut

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

instance closedOff1_0 (i : grid0.Coords) : ClosedOff (k0_off1 i 0#32) := ⟨![(i 0).val / 16, 0, 0], off1_eq i 0⟩
instance closedOff2_0 (i : grid0.Coords) : ClosedOff (k0_off2 i 0#32) := ⟨![(i 0).val / 16, 128, 0], off2_eq i 0⟩
instance closedOff1_1 (i : grid0.Coords) : ClosedOff (k0_off1 i 1#32) := ⟨![(i 0).val / 16, 0, 0], off1_eq i 1⟩
instance closedOff2_1 (i : grid0.Coords) : ClosedOff (k0_off2 i 1#32) := ⟨![(i 0).val / 16, 128, 0], off2_eq i 1⟩
instance closedOff1_2 (i : grid0.Coords) : ClosedOff (k0_off1 i 2#32) := ⟨![(i 0).val / 16, 0, 0], off1_eq i 2⟩
instance closedOff2_2 (i : grid0.Coords) : ClosedOff (k0_off2 i 2#32) := ⟨![(i 0).val / 16, 128, 0], off2_eq i 2⟩
instance closedOff1_3 (i : grid0.Coords) : ClosedOff (k0_off1 i 3#32) := ⟨![(i 0).val / 16, 0, 0], off1_eq i 3⟩
instance closedOff2_3 (i : grid0.Coords) : ClosedOff (k0_off2 i 3#32) := ⟨![(i 0).val / 16, 128, 0], off2_eq i 3⟩
instance closedOff1_4 (i : grid0.Coords) : ClosedOff (k0_off1 i 4#32) := ⟨![(i 0).val / 16, 0, 0], off1_eq i 4⟩
instance closedOff2_4 (i : grid0.Coords) : ClosedOff (k0_off2 i 4#32) := ⟨![(i 0).val / 16, 128, 0], off2_eq i 4⟩
instance closedOff1_5 (i : grid0.Coords) : ClosedOff (k0_off1 i 5#32) := ⟨![(i 0).val / 16, 0, 0], off1_eq i 5⟩
instance closedOff2_5 (i : grid0.Coords) : ClosedOff (k0_off2 i 5#32) := ⟨![(i 0).val / 16, 128, 0], off2_eq i 5⟩
instance closedOff1_6 (i : grid0.Coords) : ClosedOff (k0_off1 i 6#32) := ⟨![(i 0).val / 16, 0, 0], off1_eq i 6⟩
instance closedOff2_6 (i : grid0.Coords) : ClosedOff (k0_off2 i 6#32) := ⟨![(i 0).val / 16, 128, 0], off2_eq i 6⟩
instance closedOff1_7 (i : grid0.Coords) : ClosedOff (k0_off1 i 7#32) := ⟨![(i 0).val / 16, 0, 0], off1_eq i 7⟩
instance closedOff2_7 (i : grid0.Coords) : ClosedOff (k0_off2 i 7#32) := ⟨![(i 0).val / 16, 128, 0], off2_eq i 7⟩

section
variable (x0 : Vec F S256x1024 .bf16) (x1 : Vec F S256x1024 .fp8e4m3) (x2 : Vec F S1x256x8 .f32)

/-- What the body leaves in the column sums' block, -/
def out3 : Vec F S1x1024 .f32 := View.canon (L3 x0 x1 x2)
/-- in the block cast by rows, -/
def out4 : Vec F S256x1024 .fp8e5m2 := View.canon (L4 x0 x1 x2)
/-- in the block cast by columns, -/
def out6 : Vec F S1024x256 .fp8e5m2 := View.canon (L6 x0 x1 x2)
/-- in the columns' scales, -/
def out7 : Vec F S2x1024 .f32 := View.canon (L7 x0 x1 x2)

theorem cover3 (y) : ∃ p ∈ L3 x0 x1 x2, y ∈ p.1.set := View.cover_of_tiled (L3 x0 x1 x2) S1x128.size (by rfl) y
theorem cover4 (y) : ∃ p ∈ L4 x0 x1 x2, y ∈ p.1.set := View.cover_of_tiled (L4 x0 x1 x2) S128x128.size (by rfl) y
theorem cover6 (y) : ∃ p ∈ L6 x0 x1 x2, y ∈ p.1.set := View.cover_of_tiled (L6 x0 x1 x2) S128x128.size (by rfl) y
theorem cover7 (y) : ∃ p ∈ L7 x0 x1 x2, y ∈ p.1.set := View.cover_of_tiled (L7 x0 x1 x2) S1x128.size (by rfl) y
end

/-- The rows' scales as the last point stores them: the scratch's halves side by side. -/
def L5 (z : Vec F S2x256x128 .f32) : List (View.Piece (Elt F) S256x192 .f32) :=
  [⟨Rect.unit ![0, 128] ![256, 64] inb_S256x192_S256x64_0_128, k0_pay2 (View.ld z (Rect.unit ![1, 0, 0] ![1, 256, 64] inb_S2x256x128_S1x256x64_1_0_0))⟩,
   ⟨Rect.unit ![0, 0] ![256, 128] inb_S256x192_S256x128_0_0, k0_pay1 (View.ld z (Rect.unit ![0, 0, 0] ![1, 256, 128] inb_S2x256x128_S1x256x128_0_0_0))⟩]

theorem cover5 (z : Vec F S2x256x128 .f32) (y) : ∃ p ∈ L5 z, y ∈ p.1.set := by
  have h0 : (y 0).val < 256 := (y 0).isLt
  have h1 : (y 1).val < 192 := (y 1).isLt
  by_cases h : (y 1).val < 128
  · exact ⟨_, List.mem_cons_of_mem _ (List.mem_cons_self ..), (show y ∈ (Rect.unit (s := S256x192) ![0, 0] ![256, 128] inb_S256x192_S256x128_0_0).set from Rect.mem_set_unit.mpr (Fin.forall_fin_two.mpr ⟨⟨Nat.zero_le _, by show _ < 0 + 256; omega⟩, ⟨Nat.zero_le _, by show _ < 0 + 128; omega⟩⟩))⟩
  · exact ⟨_, List.mem_cons_self .., (show y ∈ (Rect.unit (s := S256x192) ![0, 128] ![256, 64] inb_S256x192_S256x64_0_128).set from Rect.mem_set_unit.mpr (Fin.forall_fin_two.mpr ⟨⟨Nat.zero_le _, by show _ < 0 + 256; omega⟩, ⟨by show 128 ≤ _; omega, by show _ < 128 + 64; omega⟩⟩))⟩
/-- What the body leaves in the rows' scales at the last point. -/
def out5 (z : Vec F S2x256x128 .f32) : Vec F S256x192 .f32 := View.canon (L5 z)

/-- One store more into the scratch: it replaces the tile the last store but one into that row block left. -/
theorem scratch_step (x0 : Vec F S256x1024 .bf16) (x1 : Vec F S256x1024 .fp8e4m3) (x2 : Vec F S1x256x8 .f32) (i : grid0.Coords) (x8 : Vec F S2x256x128 .f32)
    (v : View sig .tc .vmem S2x256x128 .f32) (n : ℕ) (hn : n + 2 < 16) {H H' : List (View.Piece (Elt F) S2x256x128 .f32)} (e : H = L8 x0 x1 x2 i x8 (n + 2))
    (e' : H' = ⟨Rect.unit (off8 i ((n + 2) / 2) ((n + 2) % 2)) S1x128x128.size (inb8 i (by omega) (by omega)),
      scT x0 x1 x2 ((n + 2) / 2) ((n + 2) % 2) (by omega) (by omega) i
        (v.readCov H (Rect.unit (s := S2x256x128) (off8 i ((n + 2) / 2) ((n + 2) % 2)) S1x128x128.size (inb8 i (by omega) (by omega))).toLoadRect)⟩ :: H) :
    H' = L8 x0 x1 x2 i x8 (n + 3) := by
  rw [e', e, readCov_L8 x0 x1 x2 i x8 v hn, L8_succ x0 x1 x2 i x8 hn, piece8, chain, dif_pos (show (n + 2) / 2 < 8 by omega)]

set_option maxHeartbeats 8000000 in
/-- The body, on whole buffers: the inputs end as they were, every output and the scratch at what is computed from them. -/
theorem sound_kernel (c : Dev nD) (E : Set ℕ) (i : grid0.Coords) (arg1 : Memref sig .tc .vmem S256x1024 .bf16) (harg1 : arg1.IsWhole) (arg2 : Memref sig .tc .vmem S256x1024 .fp8e4m3) (harg2 : arg2.IsWhole) (arg3 : Memref sig .tc .vmem S1x256x8 .f32) (harg3 : arg3.IsWhole) (arg4 : Memref sig .tc .vmem S1x1024 .f32) (harg4 : arg4.IsWhole) (arg5 : Memref sig .tc .vmem S256x1024 .fp8e5m2) (harg5 : arg5.IsWhole) (arg6 : Memref sig .tc .vmem S256x192 .f32) (harg6 : arg6.IsWhole) (arg7 : Memref sig .tc .vmem S1024x256 .fp8e5m2) (harg7 : arg7.IsWhole) (arg8 : Memref sig .tc .vmem S2x1024 .f32) (harg8 : arg8.IsWhole) (arg9 : Memref sig .tc .vmem S2x256x128 .f32) (harg9 : arg9.IsWhole)
    (x0 : Vec F S256x1024 .bf16) (x1 : Vec F S256x1024 .fp8e4m3) (x2 : Vec F S1x256x8 .f32) (d5 : Vec F S256x192 .f32) (x8 : Vec F S2x256x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare d5 ∗ (∃ d, owns (c : Thread nD τ) arg7 fullShare d) ∗ (∃ d, owns (c : Thread nD τ) arg8 fullShare d) ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2) ∗ owns (c : Thread nD τ) arg5 fullShare (out4 x0 x1 x2) ∗ owns (c : Thread nD τ) arg6 fullShare (if k0_cond1 i = 1#1 then out5 (scr x0 x1 x2 i x8) else d5) ∗ owns (c : Thread nD τ) arg7 fullShare (out6 x0 x1 x2) ∗ owns (c : Thread nD τ) arg8 fullShare (out7 x0 x1 x2) ∗ owns (c : Thread nD τ) arg9 fullShare (scr x0 x1 x2 i x8)) -∗ K ⟨⟩))
      ⊢ wp frame (wpE (defs₀ (F := F)) Variants.none c none) E (cc0_gelu_bwd_cast i arg1 harg1 arg2 harg2 arg3 harg3 arg4 harg4 arg5 harg5 arg6 harg6 arg7 harg7 arg8 harg8 arg9 harg9) K := by
  simp only [cc0_gelu_bwd_cast_eq_skeleton]; unfold cc0_gelu_bwd_cast_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%d6, %f6, -, H6⟩, ⟨%d7, %f7, -, H7⟩, ⟨%f8, %hf8, H8⟩, Hk⟩
  subst hf0 hf1 hf2 hf5 hf8
  sl_exec
  sl_step
  have e2 : (sound_kernel.sl.H8_2 (F := F) c i arg1 arg2 arg3 arg9 f0 f1 f2 f8) = L8 (arg1.view.read (Elt F) f0) (arg2.view.read (Elt F) f1) (arg3.view.read (Elt F) f2) i (arg9.view.read (Elt F) f8) 2 := by sl_kernel_rfl
  have e3 : (sound_kernel.sl.H8_3 (F := F) c i arg1 arg2 arg3 arg9 f0 f1 f2 f8) = L8 (arg1.view.read (Elt F) f0) (arg2.view.read (Elt F) f1) (arg3.view.read (Elt F) f2) i (arg9.view.read (Elt F) f8) 3 := scratch_step (arg1.view.read (Elt F) f0) (arg2.view.read (Elt F) f1) (arg3.view.read (Elt F) f2) i (arg9.view.read (Elt F) f8) arg9.view 0 (by decide) e2 (by sl_kernel_rfl)
  have e4 : (sound_kernel.sl.H8_4 (F := F) c i arg1 arg2 arg3 arg9 f0 f1 f2 f8) = L8 (arg1.view.read (Elt F) f0) (arg2.view.read (Elt F) f1) (arg3.view.read (Elt F) f2) i (arg9.view.read (Elt F) f8) 4 := scratch_step (arg1.view.read (Elt F) f0) (arg2.view.read (Elt F) f1) (arg3.view.read (Elt F) f2) i (arg9.view.read (Elt F) f8) arg9.view 1 (by decide) e3 (by sl_kernel_rfl)
  have e5 : (sound_kernel.sl.H8_5 (F := F) c i arg1 arg2 arg3 arg9 f0 f1 f2 f8) = L8 (arg1.view.read (Elt F) f0) (arg2.view.read (Elt F) f1) (arg3.view.read (Elt F) f2) i (arg9.view.read (Elt F) f8) 5 := scratch_step (arg1.view.read (Elt F) f0) (arg2.view.read (Elt F) f1) (arg3.view.read (Elt F) f2) i (arg9.view.read (Elt F) f8) arg9.view 2 (by decide) e4 (by sl_kernel_rfl)
  have e6 : (sound_kernel.sl.H8_6 (F := F) c i arg1 arg2 arg3 arg9 f0 f1 f2 f8) = L8 (arg1.view.read (Elt F) f0) (arg2.view.read (Elt F) f1) (arg3.view.read (Elt F) f2) i (arg9.view.read (Elt F) f8) 6 := scratch_step (arg1.view.read (Elt F) f0) (arg2.view.read (Elt F) f1) (arg3.view.read (Elt F) f2) i (arg9.view.read (Elt F) f8) arg9.view 3 (by decide) e5 (by sl_kernel_rfl)
  have e7 : (sound_kernel.sl.H8_7 (F := F) c i arg1 arg2 arg3 arg9 f0 f1 f2 f8) = L8 (arg1.view.read (Elt F) f0) (arg2.view.read (Elt F) f1) (arg3.view.read (Elt F) f2) i (arg9.view.read (Elt F) f8) 7 := scratch_step (arg1.view.read (Elt F) f0) (arg2.view.read (Elt F) f1) (arg3.view.read (Elt F) f2) i (arg9.view.read (Elt F) f8) arg9.view 4 (by decide) e6 (by sl_kernel_rfl)
  have e8 : (sound_kernel.sl.H8_8 (F := F) c i arg1 arg2 arg3 arg9 f0 f1 f2 f8) = L8 (arg1.view.read (Elt F) f0) (arg2.view.read (Elt F) f1) (arg3.view.read (Elt F) f2) i (arg9.view.read (Elt F) f8) 8 := scratch_step (arg1.view.read (Elt F) f0) (arg2.view.read (Elt F) f1) (arg3.view.read (Elt F) f2) i (arg9.view.read (Elt F) f8) arg9.view 5 (by decide) e7 (by sl_kernel_rfl)
  have e9 : (sound_kernel.sl.H8_9 (F := F) c i arg1 arg2 arg3 arg9 f0 f1 f2 f8) = L8 (arg1.view.read (Elt F) f0) (arg2.view.read (Elt F) f1) (arg3.view.read (Elt F) f2) i (arg9.view.read (Elt F) f8) 9 := scratch_step (arg1.view.read (Elt F) f0) (arg2.view.read (Elt F) f1) (arg3.view.read (Elt F) f2) i (arg9.view.read (Elt F) f8) arg9.view 6 (by decide) e8 (by sl_kernel_rfl)
  have e10 : (sound_kernel.sl.H8_10 (F := F) c i arg1 arg2 arg3 arg9 f0 f1 f2 f8) = L8 (arg1.view.read (Elt F) f0) (arg2.view.read (Elt F) f1) (arg3.view.read (Elt F) f2) i (arg9.view.read (Elt F) f8) 10 := scratch_step (arg1.view.read (Elt F) f0) (arg2.view.read (Elt F) f1) (arg3.view.read (Elt F) f2) i (arg9.view.read (Elt F) f8) arg9.view 7 (by decide) e9 (by sl_kernel_rfl)
  have e11 : (sound_kernel.sl.H8_11 (F := F) c i arg1 arg2 arg3 arg9 f0 f1 f2 f8) = L8 (arg1.view.read (Elt F) f0) (arg2.view.read (Elt F) f1) (arg3.view.read (Elt F) f2) i (arg9.view.read (Elt F) f8) 11 := scratch_step (arg1.view.read (Elt F) f0) (arg2.view.read (Elt F) f1) (arg3.view.read (Elt F) f2) i (arg9.view.read (Elt F) f8) arg9.view 8 (by decide) e10 (by sl_kernel_rfl)
  have e12 : (sound_kernel.sl.H8_12 (F := F) c i arg1 arg2 arg3 arg9 f0 f1 f2 f8) = L8 (arg1.view.read (Elt F) f0) (arg2.view.read (Elt F) f1) (arg3.view.read (Elt F) f2) i (arg9.view.read (Elt F) f8) 12 := scratch_step (arg1.view.read (Elt F) f0) (arg2.view.read (Elt F) f1) (arg3.view.read (Elt F) f2) i (arg9.view.read (Elt F) f8) arg9.view 9 (by decide) e11 (by sl_kernel_rfl)
  have e13 : (sound_kernel.sl.H8_13 (F := F) c i arg1 arg2 arg3 arg9 f0 f1 f2 f8) = L8 (arg1.view.read (Elt F) f0) (arg2.view.read (Elt F) f1) (arg3.view.read (Elt F) f2) i (arg9.view.read (Elt F) f8) 13 := scratch_step (arg1.view.read (Elt F) f0) (arg2.view.read (Elt F) f1) (arg3.view.read (Elt F) f2) i (arg9.view.read (Elt F) f8) arg9.view 10 (by decide) e12 (by sl_kernel_rfl)
  have e14 : (sound_kernel.sl.H8_14 (F := F) c i arg1 arg2 arg3 arg9 f0 f1 f2 f8) = L8 (arg1.view.read (Elt F) f0) (arg2.view.read (Elt F) f1) (arg3.view.read (Elt F) f2) i (arg9.view.read (Elt F) f8) 14 := scratch_step (arg1.view.read (Elt F) f0) (arg2.view.read (Elt F) f1) (arg3.view.read (Elt F) f2) i (arg9.view.read (Elt F) f8) arg9.view 11 (by decide) e13 (by sl_kernel_rfl)
  have e15 : (sound_kernel.sl.H8_15 (F := F) c i arg1 arg2 arg3 arg9 f0 f1 f2 f8) = L8 (arg1.view.read (Elt F) f0) (arg2.view.read (Elt F) f1) (arg3.view.read (Elt F) f2) i (arg9.view.read (Elt F) f8) 15 := scratch_step (arg1.view.read (Elt F) f0) (arg2.view.read (Elt F) f1) (arg3.view.read (Elt F) f2) i (arg9.view.read (Elt F) f8) arg9.view 12 (by decide) e14 (by sl_kernel_rfl)
  have e16 : (sound_kernel.sl.H8_16 (F := F) c i arg1 arg2 arg3 arg9 f0 f1 f2 f8) = L8 (arg1.view.read (Elt F) f0) (arg2.view.read (Elt F) f1) (arg3.view.read (Elt F) f2) i (arg9.view.read (Elt F) f8) 16 := scratch_step (arg1.view.read (Elt F) f0) (arg2.view.read (Elt F) f1) (arg3.view.read (Elt F) f2) i (arg9.view.read (Elt F) f8) arg9.view 13 (by decide) e15 (by sl_kernel_rfl)
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [show sound_kernel.sl.H3_8 (F := F) c arg1 arg2 arg3 f0 f1 f2 = L3 (arg1.view.read (Elt F) f0) (arg2.view.read (Elt F) f1) (arg3.view.read (Elt F) f2) from by sl_kernel_rfl]
    exact View.read_writes_eq_canon _ _ _ (cover3 _ _ _)
  isplitl [H4]
  · iexists _; isplitr
    swap; · iexact H4
    ipureintro
    rw [show sound_kernel.sl.H4_16 (F := F) c arg1 arg2 arg3 f0 f1 f2 = L4 (arg1.view.read (Elt F) f0) (arg2.view.read (Elt F) f1) (arg3.view.read (Elt F) f2) from by sl_kernel_rfl]
    exact View.read_writes_eq_canon _ _ _ (cover4 _ _ _)
  isplitl [H5]
  · iexists _; isplitr
    swap; · iexact H5
    ipureintro
    have ez := read_scr (arg1.view.read (Elt F) f0) (arg2.view.read (Elt F) f1) (arg3.view.read (Elt F) f2) i (arg9.view.read (Elt F) f8) arg9.view f8 rfl
    split
    · rw [← ez, ← e16]
      refine (View.read_writes_eq_canon _ _ _ (cover5 (arg9.view.read (Elt F) (arg9.view.writes (Elt F) f8 (sound_kernel.sl.H8_16 (F := F) c i arg1 arg2 arg3 arg9 f0 f1 f2 f8))))).symm.symm.trans rfl
    · rfl
  isplitl [H6]
  · iexists _; isplitr
    swap; · iexact H6
    ipureintro
    rw [show sound_kernel.sl.H6_16 (F := F) c arg1 arg2 arg3 f0 f1 f2 = L6 (arg1.view.read (Elt F) f0) (arg2.view.read (Elt F) f1) (arg3.view.read (Elt F) f2) from by sl_kernel_rfl]
    exact View.read_writes_eq_canon _ _ _ (cover6 _ _ _)
  isplitl [H7]
  · iexists _; isplitr
    swap; · iexact H7
    ipureintro
    rw [show sound_kernel.sl.H7_16 (F := F) c arg1 arg2 arg3 f0 f1 f2 = L7 (arg1.view.read (Elt F) f0) (arg2.view.read (Elt F) f1) (arg3.view.read (Elt F) f2) from by sl_kernel_rfl]
    exact View.read_writes_eq_canon _ _ _ (cover7 _ _ _)
  iexists _; isplitr
  swap; · iexact H8
  ipureintro
  rw [e16]
  exact read_scr (arg1.view.read (Elt F) f0) (arg2.view.read (Elt F) f1) (arg3.view.read (Elt F) f2) i (arg9.view.read (Elt F) f8) arg9.view f8 rfl

end Cert.KernelIdeal.Body
-- ==== Proof.Region.lean ====
/- The whole region: what the scratch holds between grid points, and the run of the kernel with every output named. -/
module

public import proofs.«01_k».proof.Proof.Gen.KernelIdeal.Frame
public import proofs.«01_k».proof.Proof.Gen.KernelIdeal.Skeleton
public import proofs.«01_k».proof.Proof.BodyRun
public import Idealize.ShloMosaic.Lib.Claim
public import Idealize.ShloMosaic.Lib.Pipeline.ValueKit
public import Idealize.ShloMosaic.Lib.Pointwise
public import Idealize.ShloMosaic.Lib.WordCmp
public import Idealize.ShloMosaic.Lib.UnfoldOut

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (x0 : Vec F S256x1024 .bf16) (x1 : Vec F S256x1024 .fp8e4m3) (x2 : Vec F S1x256x8 .f32) (i : grid0.Coords)

/-- The lane of column group `j` of the point, as the body computes it: the group's number modulo 128. -/
theorem lane_eq : ∀ (i : grid0.Coords) (j : Fin 8) (l : Fin 128),
    (let w := Scalar.addi (Scalar.muli (BitVec.ofNat 32 (i 0).val) 8#32) (BitVec.ofNat 32 j.val)
     let d := Scalar.select (Scalar.cmpi .eq 128#32 0#32) 1#32 128#32
     let r := Scalar.remsi w d
     let q := Scalar.select (Scalar.andi (Scalar.xori (Scalar.cmpi .slt r 0#32) (Scalar.cmpi .slt d 0#32)) (Scalar.cmpi .ne r 0#32)) (Scalar.addi r d) r
     Scalar.cmpi .eq (BitVec.ofNat 32 l.val) q) = if l.val = (8 * (i 0).val + j.val) % 128 then 1#1 else 0#1 := by
  decide +kernel

/-- A scratch tile after the store of column group `j`: the rows' scales in its lane, the rest as it was. -/
theorem scT_apply (j b : ℕ) (hj : j < 8) (hb : b < 2) (old : Vec F S1x128x128 .f32) (r l : Fin 128) :
    scT x0 x1 x2 j b hj hb i old (ix3 0 r l)
      = if l.val = (8 * (i 0).val + j) % 128 then rowScaleT x0 x1 x2 j b hj hb (ix2 r 0) else old (ix3 0 r l) := by
  have e := lane_eq i ⟨j, hj⟩ l
  unfold scT
  pointwise [k0_pay23]
  refine (congrArg (fun w => Scalar.select w _ _) e).trans ?_
  show Scalar.select (if l.val = (8 * (i 0).val + j) % 128 then 1#1 else 0#1) _ _ = _
  split <;> rfl

theorem rowScaleT_congr {j j' b b' : ℕ} {hj : j < 8} {hj' : j' < 8} {hb : b < 2} {hb' : b' < 2} (e : j = j') (e' : b = b') (y) :
    rowScaleT x0 x1 x2 j b hj hb y = rowScaleT x0 x1 x2 j' b' hj' hb' y := by subst e e'; rfl

/-- A scratch tile after the column groups below `j`: lane `l` holds group `128 * half + l`. -/
theorem chain_apply (x8 : Vec F S2x256x128 .f32) (b : ℕ) (hb : b < 2) (r l : Fin 128) : ∀ (j : ℕ) (hj : j ≤ 8),
    chain x0 x1 x2 i x8 b hb j (ix3 0 r l)
      = if h : 8 * (i 0).val ≤ 128 * ((i 0).val / 16) + l.val ∧ 128 * ((i 0).val / 16) + l.val < 8 * (i 0).val + j then
          rowScaleT x0 x1 x2 (128 * ((i 0).val / 16) + l.val - 8 * (i 0).val) b (by omega) hb (ix2 r 0)
        else x8 (ix3 ⟨(i 0).val / 16, by have : (i 0).val < 24 := (i 0).isLt; omega⟩ ⟨128 * b + r.val, by omega⟩ l)
  | 0, _ => by
    rw [dif_neg (by omega), chain]
    refine congrArg x8 (funext fun a => Fin.ext ?_)
    have e : off8 i 0 b = ![(i 0).val / 16, 128 * b, 0] := off8_eq i (by decide) hb
    match a with
    | ⟨0, _⟩ => exact (congrArg (· + 1 * 0) (congrFun e 0)).trans rfl
    | ⟨1, _⟩ => exact (congrArg (· + 1 * r.val) (congrFun e 1)).trans (by show 128 * b + 1 * r.val = 128 * b + r.val; omega)
    | ⟨2, _⟩ => exact (congrArg (· + 1 * l.val) (congrFun e 2)).trans (by show 0 + 1 * l.val = l.val; omega)
  | j + 1, hj => by
    have hi : (i 0).val < 24 := (i 0).isLt
    rw [chain, dif_pos (by omega : j < 8), scT_apply, chain_apply x8 b hb r l j (by omega)]
    by_cases hl : l.val = (8 * (i 0).val + j) % 128
    · rw [if_pos hl, dif_pos (by omega)]
      exact rowScaleT_congr x0 x1 x2 (by omega) rfl _
    · rw [if_neg hl]
      by_cases h : 8 * (i 0).val ≤ 128 * ((i 0).val / 16) + l.val ∧ 128 * ((i 0).val / 16) + l.val < 8 * (i 0).val + j
      · rw [dif_pos h, dif_pos (by omega)]
      · rw [dif_neg h, dif_neg (by omega)]

/-- The scratch after the body: the point's eight column groups in their lanes, the rest as it was. -/
theorem scr_apply (x8 : Vec F S2x256x128 .f32) (a : Fin 2) (r : Fin 256) (l : Fin 128) :
    scr x0 x1 x2 i x8 (ix3 a r l)
      = if h : 8 * (i 0).val ≤ 128 * a.val + l.val ∧ 128 * a.val + l.val < 8 * (i 0).val + 8 then
          rowScaleT x0 x1 x2 (128 * a.val + l.val - 8 * (i 0).val) (r.val / 128) (by omega) (by omega) (ix2 ⟨r.val % 128, Nat.mod_lt _ (by decide)⟩ 0)
        else x8 (ix3 a r l) := by
  have hi : (i 0).val < 24 := (i 0).isLt
  by_cases ha : a.val = (i 0).val / 16
  · have hc : scr x0 x1 x2 i x8 (ix3 a r l) = chain x0 x1 x2 i x8 (r.val / 128) (by omega) 8 (ix3 0 ⟨r.val % 128, Nat.mod_lt _ (by decide)⟩ l) := by
      unfold scr
      rw [if_pos (show ((ix3 a r l : S2x256x128.Idx) 0).val = (i 0).val / 16 from ha)]
      refine congrArg _ (funext fun k => ?_)
      match k with
      | ⟨0, _⟩ => rfl
      | ⟨1, _⟩ => rfl
      | ⟨2, _⟩ => rfl
    rw [hc, chain_apply x0 x1 x2 i x8 _ _ _ l 8 (Nat.le_refl _)]
    by_cases h : 8 * (i 0).val ≤ 128 * a.val + l.val ∧ 128 * a.val + l.val < 8 * (i 0).val + 8
    · rw [dif_pos h, dif_pos (by omega)]
      exact rowScaleT_congr x0 x1 x2 (by omega) rfl _
    · rw [dif_neg h, dif_neg (by omega)]
      refine congrArg x8 (funext fun k => Fin.ext ?_)
      match k with
      | ⟨0, _⟩ => exact ha.symm
      | ⟨1, _⟩ => show 128 * (r.val / 128) + r.val % 128 = r.val; omega
      | ⟨2, _⟩ => rfl
  · rw [dif_neg (by omega)]
    unfold scr
    rw [if_neg (show ¬((ix3 a r l : S2x256x128.Idx) 0).val = (i 0).val / 16 from ha)]
end

variable (m : (ℓ : Loc nD τ sig) → Buf (Elt F) ℓ) (ρ : Dev nD → PrngReg)

theorem coords_val : ∀ t : Fin grid0.N, ((grid0.coords t) 0).val = t.val := by decide +kernel

/-- The scale of row `r` in column group `g`. -/
def rowAt (c : Dev nD) (g : ℕ) (hg : g < 192) (r : Fin 256) : Elt F .f32 :=
  rowScaleT (iblk m c 0 ⟨g / 8, by show g / 8 < grid0.N; rw [N_0]; omega⟩) (iblk m c 1 ⟨g / 8, by show g / 8 < grid0.N; rw [N_0]; omega⟩) (iblk m c 2 ⟨g / 8, by show g / 8 < grid0.N; rw [N_0]; omega⟩)
    (g % 8) (r.val / 128) (by omega) (by omega) (ix2 ⟨r.val % 128, Nat.mod_lt _ (by decide)⟩ 0)

theorem rowAt_eq (c : Dev nD) (t : Fin cfg0.N) (g : ℕ) (hg : g < 192) (e : g / 8 = t.val) (r : Fin 256) :
    rowAt m c g hg r = rowScaleT (iblk m c 0 t) (iblk m c 1 t) (iblk m c 2 t) (g % 8) (r.val / 128) (by omega) (by omega) (ix2 ⟨r.val % 128, Nat.mod_lt _ (by decide)⟩ 0) := by
  have hN : g / 8 < cfg0.N := by clear e t; show g / 8 < grid0.N; rw [N_0]; omega
  have ht : t = ⟨g / 8, hN⟩ := Fin.ext e.symm
  subst ht
  rfl

/-- What the scratch holds after `n` grid points: the rows' scales of their column groups. -/
def Inv (c : Dev nD) (n : ℕ) (f : Vec F S2x256x128 .f32) : Prop :=
  ∀ (a : Fin 2) (r : Fin 256) (l : Fin 128) (_ : 128 * a.val + l.val < 8 * n) (h' : 128 * a.val + l.val < 192),
    f (ix3 a r l) = rowAt m c (128 * a.val + l.val) h' r

theorem Inv_step (c : Dev nD) (t : Fin cfg0.N) (f : Vec F S2x256x128 .f32) (hf : Inv m c t.val f) :
    Inv m c (t.val + 1) (scr (iblk m c 0 t) (iblk m c 1 t) (iblk m c 2 t) (grid0.coords t) f) := by
  intro a r l h h'
  have ht : ((grid0.coords t) 0).val = t.val := coords_val t
  rw [scr_apply]
  by_cases hl : 8 * t.val ≤ 128 * a.val + l.val
  · rw [dif_pos (by omega), rowAt_eq m c t _ h' (by omega)]
    exact rowScaleT_congr _ _ _ (by omega) rfl _
  · rw [dif_neg (by omega)]
    exact hf a r l (by omega) h'

/-- The rows' scales. -/
def rsOut (c : Dev nD) : Vec F S256x192 .f32 := fun y => rowAt m c (y 1).val (y 1).isLt (y 0)

theorem rowAt_congr (c : Dev nD) {g g' : ℕ} {hg : g < 192} {hg' : g' < 192} {r r' : Fin 256} (e : g = g') (e' : r.val = r'.val) : rowAt m c g hg r = rowAt m c g' hg' r' := by
  obtain rfl := Fin.ext e'
  subst e
  rfl

theorem pay1_apply (X : Vec F S1x256x128 .f32) (r : Fin 256) (l : Fin 128) : k0_pay1 X (ix2 r l) = X (ix3 0 r l) := by
  pointwise [k0_pay1]
theorem pay2_apply (X : Vec F S1x256x64 .f32) (r : Fin 256) (l : Fin 64) : k0_pay2 X (ix2 r l) = X (ix3 0 r l) := by
  pointwise [k0_pay2]
theorem ix2_eta {n k : ℕ} (x : (⟨2, ![n, k]⟩ : Shape).Idx) : x = ix2 (x 0) (x 1) := by
  funext a
  match a with
  | ⟨0, _⟩ => rfl
  | ⟨1, _⟩ => rfl

theorem out5_eq (c : Dev nD) (z : Vec F S2x256x128 .f32) (hz : Inv m c 24 z) : out5 z = rsOut m c := by
  funext y
  unfold out5
  refine View.canon_apply_of_pieces (rsOut m c) (L5 z) ?_ y (cover5 z y)
  intro p hp
  unfold L5 at hp
  simp only [List.mem_cons, List.mem_nil_iff, or_false] at hp
  rcases hp with rfl | rfl
  · intro x
    have h1 : (x 1).val < 64 := (x 1).isLt
    refine (congrArg (k0_pay2 (F := F) (View.ld z (Rect.unit (s := S2x256x128) ![1, 0, 0] ![1, 256, 64] inb_S2x256x128_S1x256x64_1_0_0))) (ix2_eta x)).trans ((pay2_apply _ (x 0) (x 1)).trans ?_)
    refine (congrArg z (funext fun a => Fin.ext ?_)).trans ((hz 1 (x 0) ⟨(x 1).val, by omega⟩ (by show 128 * 1 + (x 1).val < _; omega) (by show 128 * 1 + (x 1).val < _; omega)).trans ?_)
    · match a with
      | ⟨0, _⟩ => rfl
      | ⟨1, _⟩ => show 0 + 1 * (x 0).val = (x 0).val; omega
      | ⟨2, _⟩ => show 0 + 1 * (x 1).val = (x 1).val; omega
    · exact rowAt_congr m c (by show 128 * 1 + (x 1).val = 128 + 1 * (x 1).val; omega) (by show (x 0).val = 0 + 1 * (x 0).val; omega)
  · intro x
    have h1 : (x 1).val < 128 := (x 1).isLt
    refine (congrArg (k0_pay1 (F := F) (View.ld z (Rect.unit (s := S2x256x128) ![0, 0, 0] ![1, 256, 128] inb_S2x256x128_S1x256x128_0_0_0))) (ix2_eta x)).trans ((pay1_apply _ (x 0) (x 1)).trans ?_)
    refine (congrArg z (funext fun a => Fin.ext ?_)).trans ((hz 0 (x 0) ⟨(x 1).val, by omega⟩ (by show 128 * 0 + (x 1).val < _; omega) (by show 128 * 0 + (x 1).val < _; omega)).trans ?_)
    · match a with
      | ⟨0, _⟩ => rfl
      | ⟨1, _⟩ => show 0 + 1 * (x 0).val = (x 0).val; omega
      | ⟨2, _⟩ => show 0 + 1 * (x 1).val = (x 1).val; omega
    · exact rowAt_congr m c (by show 128 * 0 + (x 1).val = 0 + 1 * (x 1).val; omega) (by show (x 0).val = 0 + 1 * (x 0).val; omega)

/-- The proof data: every buffer at what the body leaves in it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
    | ⟨4, _⟩ => out4 (iblk m c 0 t) (iblk m c 1 t) (iblk m c 2 t)
    | ⟨5, _⟩ => rsOut m c
    | ⟨6, _⟩ => out6 (iblk m c 0 t) (iblk m c 1 t) (iblk m c 2 t)
    | ⟨7, _⟩ => out7 (iblk m c 0 t) (iblk m c 1 t) (iblk m c 2 t)
  Φ t := iprop((∃ f : Vec F S2x256x128 .f32, ⌜Inv m c t.val f⌝ ∗ owns (c : Thread nD τ) (Memref.whole cc0_scratch0) fullShare f) ∗ ∃ r, prngReg c r)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 (iblk m c 0 t) (iblk m c 1 t) (iblk m c 2 t) := by dsimp only [dats]
theorem after0_4 (c : Dev nD) (t : Fin cfg0.N) : (dats m 0 c).after 4 t = out4 (iblk m c 0 t) (iblk m c 1 t) (iblk m c 2 t) := by dsimp only [dats]
theorem after0_6 (c : Dev nD) (t : Fin cfg0.N) : (dats m 0 c).after 6 t = out6 (iblk m c 0 t) (iblk m c 1 t) (iblk m c 2 t) := by dsimp only [dats]
theorem after0_7 (c : Dev nD) (t : Fin cfg0.N) : (dats m 0 c).after 7 t = out7 (iblk m c 0 t) (iblk m c 1 t) (iblk m c 2 t) := by dsimp only [dats]
theorem after0_5 (c : Dev nD) (t : Fin cfg0.N) : (dats m 0 c).after 5 t = rsOut m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The region's invariant: the scratch and the generator register, at anything. -/
theorem ΦA_eq (c : Dev nD) : (Pipeline.ΦA spec0 c : sProp 𝕄) = iprop((∃ f : Vec F S2x256x128 .f32, owns (c : Thread nD τ) (Memref.whole cc0_scratch0) fullShare f) ∗ ∃ r, prngReg c r) := by
  unfold Pipeline.ΦA
  rw [scopedRest0_eq]
  simp only [owns_whole]
  rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns of the rows' scales: as handed to it but at the last point. -/
def sPost (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ sPost m c t
    ∗ owns (c : Thread nD τ) (st0_6 t) fullShare ((dats m 0 c).after 6 t)
    ∗ owns (c : Thread nD τ) (st0_7 t) fullShare ((dats m 0 c).after 7 t))

theorem idle5_eq (t : Fin cfg0.N) : cfg0.idle 5 (cfg0.grid.coords t) = !(k0_cond1 (grid0.coords t) == 1#1) := rfl
theorem live5 : ∀ t : Fin grid0.N, k0_cond1 (grid0.coords t) = 1#1 → t.val = 23 := by decide +kernel
theorem flush5 : ∀ t : Fin grid0.N, ¬k0_cond1 (grid0.coords t) = 1#1 → (cfg0.win 5).flush t = false := fun t h => by
  have e : ∀ t : Fin grid0.N, t.val = 23 → k0_cond1 (grid0.coords t) = 1#1 := by decide +kernel
  have h' := mt (e t) h
  cases hf : (cfg0.win 5).flush t with
  | false => rfl
  | true => have := (flush0_5 t).mp hf; have ht : t.val < 24 := lt_of_lt_of_eq t.isLt N_0
            omega

theorem sPost_live (c : Dev nD) (t : Fin cfg0.N) (h : cfg0.idle 5 (cfg0.grid.coords t) = false) :
    sPost m c t = owns (c : Thread nD τ) (st0_5 t) fullShare ((dats m 0 c).after 5 t) := by
  unfold sPost
  generalize cfg0.idle 5 (cfg0.grid.coords t) = x at h
  subst h
  rfl
theorem sPost_idle (c : Dev nD) (t : Fin cfg0.N) (h : cfg0.idle 5 (cfg0.grid.coords t) = true) (h' : (cfg0.win 5).flush t = false) :
    sPost m c t = iprop(∃ d, owns (c : Thread nD τ) (st0_5 t) fullShare ((dats m 0 c).before 5 t d)) := by
  unfold sPost
  generalize cfg0.idle 5 (cfg0.grid.coords t) = x at h
  generalize (cfg0.win 5).flush t = y at h'
  subst h h'
  rfl

theorem sPost_intro (c : Dev nD) (t : Fin cfg0.N) (z : Vec F S2x256x128 .f32) (hz : Inv m c (t.val + 1) z) (d) :
    (owns (c : Thread nD τ) (st0_5 t) fullShare (if k0_cond1 (grid0.coords t) = 1#1 then out5 z else (dats m 0 c).before 5 t d) : sProp 𝕄) ⊢ sPost m c t := by
  by_cases h : k0_cond1 (grid0.coords t) = 1#1
  · have hi : cfg0.idle 5 (cfg0.grid.coords t) = false := by rw [idle5_eq, h]; rfl
    rw [sPost_live m c t hi]
    rw [if_pos h, out5_eq m c z (by have := live5 t h; rw [this] at hz; exact hz), after0_5]
  · have hi : cfg0.idle 5 (cfg0.grid.coords t) = true := by rw [idle5_eq, beq_false_of_ne h]; rfl
    rw [sPost_idle m c t hi (flush5 t h)]
    rw [if_neg h]
    iintro H
    iexists d
    iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = iprop((∃ f : Vec F S2x256x128 .f32, ⌜Inv m c (t.val + 1) f⌝ ∗ owns (c : Thread nD τ) (Memref.whole cc0_scratch0) fullShare f) ∗ ∃ r, prngReg c r) from rfl,
    show (dats m 0 c).Φ t.castSucc = iprop((∃ f : Vec F S2x256x128 .f32, ⌜Inv m c t.val f⌝ ∗ owns (c : Thread nD τ) (Memref.whole cc0_scratch0) fullShare f) ∗ ∃ r, prngReg c r) from rfl,
    show (dats m 0 c).owesAt () t.succ = (dats m 0 c).owesAt () t.castSucc from rfl,
    after0_0, after0_1, after0_2, after0_3, after0_4, after0_6, after0_7]
  iintro ⟨⟨⟨%f, %hf, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ _ _ (iblk m c 0 t) (iblk m c 1 t) (iblk m c 2 t) ((dats m 0 c).before 5 t d5) f _)
  isplitl [H0]; · iexact H0
  isplitl [H1]; · iexact H1
  isplitl [H2]; · iexact H2
  isplitl [H3]; · iexists _; iexact H3
  isplitl [H4]; · iexists _; iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS Hr]
  · isplitl [HS]
    · iexists _
      isplitr
      swap; · iexact HS
      ipureintro
      exact Inv_step m c t f hf
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (sPost_intro m c t _ (Inv_step m c t f hf) d5)
    iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : (Pipeline.ΦA spec0 c : sProp 𝕄) ⊢ (dats m 0 c).Φ 0 := by
  rw [ΦA_eq, show (dats m 0 c).Φ 0 = iprop((∃ f : Vec F S2x256x128 .f32, ⌜Inv m c 0 f⌝ ∗ owns (c : Thread nD τ) (Memref.whole cc0_scratch0) fullShare f) ∗ ∃ r, prngReg c r) from rfl]
  iintro ⟨⟨%f, HS⟩, Hr⟩
  isplitl [HS]
  · iexists f
    isplitr
    · ipureintro
      intro a r l h
      omega
    iexact HS
  iexact Hr

theorem hout (c : Dev nD) : (dats m 0 c).Φ (Fin.last cfg0.N) ⊢ (Pipeline.ΦA spec0 c : sProp 𝕄) := by
  rw [ΦA_eq, show (dats m 0 c).Φ (Fin.last cfg0.N) = iprop((∃ f : Vec F S2x256x128 .f32, ⌜Inv m c cfg0.N f⌝ ∗ owns (c : Thread nD τ) (Memref.whole cc0_scratch0) fullShare f) ∗ ∃ r, prngReg c r) from rfl]
  iintro ⟨⟨%f, %hf, HS⟩, Hr⟩
  isplitl [HS]
  · iexists f
    iexact HS
  iexact Hr

set_option backward.isDefEq.respectTransparency.types false in
set_option maxHeartbeats 800000 in
/-- The run of the kernel: every array at what the proof data gives. -/
theorem run_main : θ_run defs (onTc (τ := τ) (main (F := F))) (s₀ m ρ) (fun r => Pipeline.FramePost cfgs (dats m) (0 : Fin 1) (Pipeline.afterTail₀ cfgs (dats m) (0 : Fin 1) (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (Q' := _) (hQ' := fun _ h => h)

end Cert.KernelIdeal.Body
-- ==== Proof.KernelValue.lean ====
module

public import proofs.«01_k».proof.Proof.TileValues
public import proofs.«01_k».proof.Proof.Region
public import Idealize.ShloMosaic.Lib.Pipeline.ValueKit

/-!
# The kernel's arrays after the run
-/

@[expose] public section
set_option maxRecDepth 16384
noncomputable section
namespace Cert.KernelIdeal.Body
open Cert.KernelIdeal Cert.KernelIdeal.Gen
open Idealize.ShloMosaic Idealize.ShloMosaic.TcCoe Idealize.ShloMosaic.Tactic
open Cert.Scal Cert.Spec

variable (m : (ℓ : Loc nD τ sig) → Buf (Elt Ideal) ℓ)

/-- The arguments. -/
def A0 (c : Dev nD) : FVec Ideal S256x24576 .bf16 := m ((c : Thread nD τ).loc main_arg0)
def A1 (c : Dev nD) : FVec Ideal S256x24576 .fp8e4m3 := m ((c : Thread nD τ).loc main_arg1)
def A2 (c : Dev nD) : FVec Ideal S256x192 .f32 := m ((c : Thread nD τ).loc main_arg2)

/-- The gradient matrix as the kernel computes it. -/
def DK (c : Dev nD) (r : Fin 256) (y : Fin 24576) : EReal :=
  dK kR ((kR * cR : ℝ) : EReal) (A0 m c (ix2 r y)) (A1 m c (ix2 r y) * A2 m c (ix2 r (grp y)))

theorem idx : ∀ t : Fin cfg0.N, win0_0.index t = ![0, t.val] ∧ win0_1.index t = ![0, t.val] ∧ win0_2.index t = ![t.val, 0, 0] ∧
    win0_3.index t = ![0, t.val] ∧ win0_4.index t = ![0, t.val] ∧ win0_5.index t = ![0, 0] ∧ win0_6.index t = ![t.val, 0] ∧
    win0_7.index t = ![0, t.val] := (by decide +kernel : ∀ t : Fin grid0.N, _)

theorem t_lt (t : Fin cfg0.N) : t.val < 24 := lt_of_lt_of_eq t.isLt N_0

/-- Column `l` of tile `j` at grid point `t`. -/
def tcol (t : Fin cfg0.N) (j : ℕ) (hj : j < 8) (l : Fin 128) : Fin 24576 := ⟨1024 * t.val + (128 * j + l.val), by have := t_lt t; omega⟩
/-- Row `r` of row block `b`. -/
def trow (b : ℕ) (hb : b < 2) (r : Fin 128) : Fin 256 := ⟨128 * b + r.val, by omega⟩
/-- The column group of tile `j` at grid point `t`. -/
def tgrp (t : Fin cfg0.N) (j : ℕ) (hj : j < 8) : Fin 192 := ⟨8 * t.val + j, by have := t_lt t; omega⟩

theorem gT_at (x0 : Vec Ideal S256x1024 .bf16) (j b : ℕ) (hj : j < 8) (hb : b < 2) (r l : Fin 128) :
    gT x0 j b hj hb (ix2 r l) = x0 (ix2 ⟨128 * b + r.val, by omega⟩ ⟨128 * j + l.val, by omega⟩) := by
  unfold gT
  simp only [View.ld]
  blk_ext
  · show 128 * b + 1 * r.val = _; omega
  · show 128 * j + 1 * l.val = _; omega
theorem qT_at (x1 : Vec Ideal S256x1024 .fp8e4m3) (j b : ℕ) (hj : j < 8) (hb : b < 2) (r l : Fin 128) :
    qT x1 j b hj hb (ix2 r l) = x1 (ix2 ⟨128 * b + r.val, by omega⟩ ⟨128 * j + l.val, by omega⟩) := by
  unfold qT
  simp only [View.ld]
  blk_ext
  · show 128 * b + 1 * r.val = _; omega
  · show 128 * j + 1 * l.val = _; omega
theorem sT_at (x2 : Vec Ideal S1x256x8 .f32) (j b : ℕ) (hj : j < 8) (hb : b < 2) (r : Fin 128) :
    sT x2 j b hj hb (ix3 0 r 0) = x2 (ix3 0 ⟨128 * b + r.val, by omega⟩ ⟨j, hj⟩) := by
  unfold sT
  simp only [View.ld]
  blk_ext
  · show 128 * b + 1 * r.val = _; omega
  · show j + 1 * 0 = _; omega

theorem iblk0_at (c : Dev nD) (t : Fin cfg0.N) (r : Fin 256) (y : Fin 1024) :
    (iblk m c 0 t : Vec Ideal S256x1024 .bf16) (ix2 r y) = A0 m c (ix2 r ⟨1024 * t.val + y.val, by have := t_lt t; omega⟩) := by
  unfold A0
  rw [← V_main_arg0 m c]
  blk_ext [iblk, idx t]
theorem iblk1_at (c : Dev nD) (t : Fin cfg0.N) (r : Fin 256) (y : Fin 1024) :
    (iblk m c 1 t : Vec Ideal S256x1024 .fp8e4m3) (ix2 r y) = A1 m c (ix2 r ⟨1024 * t.val + y.val, by have := t_lt t; omega⟩) := by
  unfold A1
  rw [← V_main_arg1 m c]
  blk_ext [iblk, idx t]
theorem V_xs (c : Dev nD) : V m c main_v1 = (transpose S24x256x8 [1, 0, 2] (shapeCast S256x24x8 (A2 m c) shapeCasts_S256x192_S256x24x8) transposes_S256x24x8_S24x256x8_1_0_2 : FVec Ideal S24x256x8 .f32) := by
  unfold A2
  show StableHlo.after [hostOps0].flatten (fun b => m (c, b)) (Proc.tc.devRef main_v1) = _
  simp only [hostOps0, List.flatten_cons, List.flatten_nil, List.append_nil]
  after_results
  rfl
theorem xs_at (x : FVec Ideal S256x192 .f32) (a : Fin 24) (r : Fin 256) (j : Fin 8) :
    (transpose S24x256x8 [1, 0, 2] (shapeCast S256x24x8 x shapeCasts_S256x192_S256x24x8) transposes_S256x24x8_S24x256x8_1_0_2 : FVec Ideal S24x256x8 .f32) (ix3 a r j)
      = x (ix2 r ⟨8 * a.val + j.val, by omega⟩) := by
  pointwise
  blk_ext
theorem iblk2_at (c : Dev nD) (t : Fin cfg0.N) (r : Fin 256) (j : Fin 8) :
    (iblk m c 2 t : Vec Ideal S1x256x8 .f32) (ix3 0 r j) = A2 m c (ix2 r ⟨8 * t.val + j.val, by have := t_lt t; omega⟩) := by
  refine Eq.trans ?_ (xs_at (A2 m c) ⟨t.val, t_lt t⟩ r j)
  rw [← V_xs m c]
  blk_ext [iblk, idx t]

theorem dT_at (c : Dev nD) (t : Fin cfg0.N) (j b : ℕ) (hj : j < 8) (hb : b < 2) (r l : Fin 128) :
    (dT (iblk m c 0 t) (iblk m c 1 t) (iblk m c 2 t) j b hj hb (ix2 r l) : EReal) = DK m c (trow b hb r) (tcol t j hj l) := by
  unfold dT
  rw [pay3_at, gT_at, qT_at, sT_at, iblk0_at, iblk1_at, iblk2_at]
  unfold DK
  have e : (⟨8 * t.val + (⟨j, hj⟩ : Fin 8).val, by have := t_lt t; simp only; omega⟩ : Fin 192) = grp (tcol t j hj l) :=
    Fin.ext (by simp only [grp, tcol]; omega)
  rw [e]
  rfl

theorem absf_congr {a b : EReal} (e : a = b) : (FloatOps.absf (F := Ideal) (φ := .f32) a : EReal) = FloatOps.absf (F := Ideal) (φ := .f32) b := by rw [e]

section Tile
variable (c : Dev nD) (t : Fin cfg0.N) (j b : ℕ) (hj : j < 8) (hb : b < 2)

theorem pay3_dT (r l : Fin 128) : (k0_pay3 (gT (iblk m c 0 t) j b hj hb) (qT (iblk m c 1 t) j b hj hb) (sT (iblk m c 2 t) j b hj hb) (ix2 r l) : EReal) =
    DK m c (trow b hb r) (tcol t j hj l) := dT_at m c t j b hj hb r l

theorem sumT_at (l : Fin 128) : (sumT (iblk m c 0 t) (iblk m c 1 t) (iblk m c 2 t) j b hj hb (ix2 0 l) : EReal) =
    ∑ x : Fin 128, DK m c (trow b hb x) (tcol t j hj l) := by
  unfold sumT
  rw [pay4_at]
  exact Finset.sum_congr rfl fun x _ => pay3_dT m c t j b hj hb x l

theorem rowMaxT_at (r : Fin 128) : (rowMaxT (iblk m c 0 t) (iblk m c 1 t) (iblk m c 2 t) j b hj hb (ix2 r 0) : EReal) =
    rowMax (DK m c) (trow b hb r) (tgrp t j hj) := by
  unfold rowMaxT rowMax
  rw [pay6_at]
  congr 1
  funext x
  rw [pay3_dT, show tcol t j hj x = gcol (tgrp t j hj) x from Fin.ext (by simp only [tcol, gcol, tgrp]; omega)]

theorem colMaxT_at (l : Fin 128) : (colMaxT (iblk m c 0 t) (iblk m c 1 t) (iblk m c 2 t) j b hj hb (ix2 0 l) : EReal) =
    colMax (DK m c) ⟨b, hb⟩ (tcol t j hj l) := by
  unfold colMaxT colMax
  rw [pay7_at]
  congr 1
  funext x
  rw [pay3_dT]
  rfl

theorem rowScaleT_at (r : Fin 128) : (rowScaleT (iblk m c 0 t) (iblk m c 1 t) (iblk m c 2 t) j b hj hb (ix2 r 0) : EReal) =
    rsK (DK m c) (trow b hb r) (tgrp t j hj) := by
  unfold rowScaleT rsK
  rw [rowScale_at, rowMaxT_at]

theorem colScaleT_at (l : Fin 128) : (colScaleT (iblk m c 0 t) (iblk m c 1 t) (iblk m c 2 t) j b hj hb (ix2 0 l) : EReal) =
    csK (DK m c) ⟨b, hb⟩ (tcol t j hj l) := by
  unfold colScaleT csK
  rw [colScale_at, colMaxT_at]

theorem rcT_at (r l : Fin 128) : (rcT (iblk m c 0 t) (iblk m c 1 t) (iblk m c 2 t) j b hj hb (ix2 r l) : EReal) =
    rcK (DK m c) (trow b hb r) (tcol t j hj l) := by
  unfold rcT rcK
  rw [pay21_at, dT_at]
  unfold rowInvT
  rw [rowInv_at, rowMaxT_at, show tgrp t j hj = grp (tcol t j hj l) from Fin.ext (by simp only [tcol, grp, tgrp]; omega)]

theorem ccT_at (l r : Fin 128) : (ccT (iblk m c 0 t) (iblk m c 1 t) (iblk m c 2 t) j b hj hb (ix2 l r) : EReal) =
    ccK (DK m c) (tcol t j hj l) (trow b hb r) := by
  unfold ccT ccK
  rw [pay22_at, dT_at, colMaxT_at, show (⟨b, hb⟩ : Fin 2) = blk (trow b hb r) from Fin.ext (by simp only [blk, trow]; omega)]
end Tile

section Block
variable (c : Dev nD) (t : Fin cfg0.N)

theorem lt_col (y : Fin 1024) : 1024 * t.val + y.val < 24576 := by have := t_lt t; omega

/-- The blocks of grid point `t`, of a function of the coordinates. -/
def B3 (f : Fin 24576 → EReal) : Vec Ideal S1x1024 .f32 := fun y => (f ⟨1024 * t.val + (y 1).val, lt_col t (y 1)⟩ : EReal)
def B4 (f : Fin 256 → Fin 24576 → EReal) : Vec Ideal S256x1024 .fp8e5m2 := fun y => (f (y 0) ⟨1024 * t.val + (y 1).val, lt_col t (y 1)⟩ : EReal)
def B6 (f : Fin 24576 → Fin 256 → EReal) : Vec Ideal S1024x256 .fp8e5m2 := fun y => (f ⟨1024 * t.val + (y 0).val, lt_col t (y 0)⟩ (y 1) : EReal)
def B7 (f : Fin 2 → Fin 24576 → EReal) : Vec Ideal S2x1024 .f32 := fun y => (f (y 0) ⟨1024 * t.val + (y 1).val, lt_col t (y 1)⟩ : EReal)

theorem piece3_at (j : ℕ) (hj : j < 8) (x : S1x128.Idx) :
    (piece3 (iblk m c 0 t) (iblk m c 1 t) (iblk m c 2 t) j hj).2 x = B3 t (colSum (DK m c)) ((piece3 (iblk m c 0 t) (iblk m c 1 t) (iblk m c 2 t) j hj).1.emb x) := by
  obtain ⟨l, rfl⟩ : ∃ l : Fin 128, x = ix2 0 l := ⟨x 1, (ix2_eta x).trans (congrArg (fun z : Fin 1 => ix2 z (x 1)) (Subsingleton.elim _ _))⟩
  refine (congrArg₂ (· + · : EReal → EReal → EReal) (sumT_at m c t j 0 hj (by decide) l) (sumT_at m c t j 1 hj (by decide) l)).trans ?_
  show colSum (DK m c) (tcol t j hj l) = colSum (DK m c) _
  congr 1
  refine Fin.ext ?_
  show 1024 * t.val + (128 * j + l.val) = 1024 * t.val + (128 * j + 1 * l.val)
  omega

theorem piece4_at (j b : ℕ) (hj : j < 8) (hb : b < 2) (x : S128x128.Idx) :
    (piece4 (iblk m c 0 t) (iblk m c 1 t) (iblk m c 2 t) j b hj hb).2 x = B4 t (rcK (DK m c)) ((piece4 (iblk m c 0 t) (iblk m c 1 t) (iblk m c 2 t) j b hj hb).1.emb x) := by
  obtain ⟨r, l, rfl⟩ : ∃ r l : Fin 128, x = ix2 r l := ⟨x 0, x 1, ix2_eta x⟩
  refine (rcT_at m c t j b hj hb r l).trans ?_
  refine congrArg₂ (rcK (DK m c)) (Fin.ext ?_) (Fin.ext ?_)
  · show 128 * b + r.val = 128 * b + 1 * r.val
    omega
  · show 1024 * t.val + (128 * j + l.val) = 1024 * t.val + (128 * j + 1 * l.val)
    omega

theorem piece6_at (j b : ℕ) (hj : j < 8) (hb : b < 2) (x : S128x128.Idx) :
    (piece6 (iblk m c 0 t) (iblk m c 1 t) (iblk m c 2 t) j b hj hb).2 x = B6 t (ccK (DK m c)) ((piece6 (iblk m c 0 t) (iblk m c 1 t) (iblk m c 2 t) j b hj hb).1.emb x) := by
  obtain ⟨l, r, rfl⟩ : ∃ l r : Fin 128, x = ix2 l r := ⟨x 0, x 1, ix2_eta x⟩
  refine (ccT_at m c t j b hj hb l r).trans ?_
  refine congrArg₂ (ccK (DK m c)) (Fin.ext ?_) (Fin.ext ?_)
  · show 1024 * t.val + (128 * j + l.val) = 1024 * t.val + (128 * j + 1 * l.val)
    omega
  · show 128 * b + r.val = 128 * b + 1 * r.val
    omega

theorem piece7_at (j b : ℕ) (hj : j < 8) (hb : b < 2) (x : S1x128.Idx) :
    (piece7 (iblk m c 0 t) (iblk m c 1 t) (iblk m c 2 t) j b hj hb).2 x = B7 t (csK (DK m c)) ((piece7 (iblk m c 0 t) (iblk m c 1 t) (iblk m c 2 t) j b hj hb).1.emb x) := by
  obtain ⟨l, rfl⟩ : ∃ l : Fin 128, x = ix2 0 l := ⟨x 1, (ix2_eta x).trans (congrArg (fun z : Fin 1 => ix2 z (x 1)) (Subsingleton.elim _ _))⟩
  refine (colScaleT_at m c t j b hj hb l).trans ?_
  refine congrArg₂ (csK (DK m c)) (Fin.ext ?_) (Fin.ext ?_)
  · show b = b + 1 * 0
    omega
  · show 1024 * t.val + (128 * j + l.val) = 1024 * t.val + (128 * j + 1 * l.val)
    omega

theorem out3_eq : out3 (iblk m c 0 t) (iblk m c 1 t) (iblk m c 2 t) = B3 t (colSum (DK m c)) := by
  funext y
  unfold out3
  refine View.canon_apply_of_pieces (B3 t (colSum (DK m c))) _ ?_ y (cover3 _ _ _ y)
  unfold L3
  simp only [List.forall_mem_cons, List.forall_mem_nil, and_true]
  exact ⟨piece3_at m c t 7 _, piece3_at m c t 6 _, piece3_at m c t 5 _, piece3_at m c t 4 _, piece3_at m c t 3 _, piece3_at m c t 2 _, piece3_at m c t 1 _, piece3_at m c t 0 _, fun _ h => nomatch h⟩

theorem out4_eq : out4 (iblk m c 0 t) (iblk m c 1 t) (iblk m c 2 t) = B4 t (rcK (DK m c)) := by
  funext y
  unfold out4
  refine View.canon_apply_of_pieces (B4 t (rcK (DK m c))) _ ?_ y (cover4 _ _ _ y)
  unfold L4
  simp only [List.forall_mem_cons, List.forall_mem_nil, and_true]
  exact ⟨piece4_at m c t 7 1 _ _, piece4_at m c t 7 0 _ _, piece4_at m c t 6 1 _ _, piece4_at m c t 6 0 _ _, piece4_at m c t 5 1 _ _, piece4_at m c t 5 0 _ _, piece4_at m c t 4 1 _ _, piece4_at m c t 4 0 _ _, piece4_at m c t 3 1 _ _, piece4_at m c t 3 0 _ _, piece4_at m c t 2 1 _ _, piece4_at m c t 2 0 _ _, piece4_at m c t 1 1 _ _, piece4_at m c t 1 0 _ _, piece4_at m c t 0 1 _ _, piece4_at m c t 0 0 _ _, fun _ h => nomatch h⟩

theorem out6_eq : out6 (iblk m c 0 t) (iblk m c 1 t) (iblk m c 2 t) = B6 t (ccK (DK m c)) := by
  funext y
  unfold out6
  refine View.canon_apply_of_pieces (B6 t (ccK (DK m c))) _ ?_ y (cover6 _ _ _ y)
  unfold L6
  simp only [List.forall_mem_cons, List.forall_mem_nil, and_true]
  exact ⟨piece6_at m c t 7 1 _ _, piece6_at m c t 7 0 _ _, piece6_at m c t 6 1 _ _, piece6_at m c t 6 0 _ _, piece6_at m c t 5 1 _ _, piece6_at m c t 5 0 _ _, piece6_at m c t 4 1 _ _, piece6_at m c t 4 0 _ _, piece6_at m c t 3 1 _ _, piece6_at m c t 3 0 _ _, piece6_at m c t 2 1 _ _, piece6_at m c t 2 0 _ _, piece6_at m c t 1 1 _ _, piece6_at m c t 1 0 _ _, piece6_at m c t 0 1 _ _, piece6_at m c t 0 0 _ _, fun _ h => nomatch h⟩

theorem out7_eq : out7 (iblk m c 0 t) (iblk m c 1 t) (iblk m c 2 t) = B7 t (csK (DK m c)) := by
  funext y
  unfold out7
  refine View.canon_apply_of_pieces (B7 t (csK (DK m c))) _ ?_ y (cover7 _ _ _ y)
  unfold L7
  simp only [List.forall_mem_cons, List.forall_mem_nil, and_true]
  exact ⟨piece7_at m c t 7 1 _ _, piece7_at m c t 7 0 _ _, piece7_at m c t 6 1 _ _, piece7_at m c t 6 0 _ _, piece7_at m c t 5 1 _ _, piece7_at m c t 5 0 _ _, piece7_at m c t 4 1 _ _, piece7_at m c t 4 0 _ _, piece7_at m c t 3 1 _ _, piece7_at m c t 3 0 _ _, piece7_at m c t 2 1 _ _, piece7_at m c t 2 0 _ _, piece7_at m c t 1 1 _ _, piece7_at m c t 1 0 _ _, piece7_at m c t 0 1 _ _, piece7_at m c t 0 0 _ _, fun _ h => nomatch h⟩

end Block

end Cert.KernelIdeal.Body
-- ==== Proof.KernelArrays.lean ====
module

public import proofs.«01_k».proof.Proof.KernelValue
public import Idealize.ShloMosaic.Lib.Pipeline.ValueKit

/-!
# The kernel's whole arrays after the run
-/

@[expose] public section
set_option maxRecDepth 16384
noncomputable section
namespace Cert.KernelIdeal.Body
open Cert.KernelIdeal Cert.KernelIdeal.Gen
open Idealize.ShloMosaic Idealize.ShloMosaic.TcCoe Idealize.ShloMosaic.Tactic
open Cert.Scal Cert.Spec

variable (m : (ℓ : Loc nD τ sig) → Buf (Elt Ideal) ℓ)

variable (c : Dev nD)

/-- The whole arrays, of a function of the coordinates. -/
def G3 (f : Fin 24576 → EReal) : FVec Ideal S1x24576 .f32 := fun y => f (y 1)
def G4 (f : Fin 256 → Fin 24576 → EReal) : FVec Ideal S256x24576 .fp8e5m2 := fun y => f (y 0) (y 1)
def G5 (f : Fin 256 → Fin 192 → EReal) : FVec Ideal S256x192 .f32 := fun y => f (y 0) (y 1)
def G6 (f : Fin 24576 → Fin 256 → EReal) : FVec Ideal S24576x256 .fp8e5m2 := fun y => f (y 0) (y 1)
def G7 (f : Fin 2 → Fin 24576 → EReal) : FVec Ideal S2x24576 .f32 := fun y => f (y 0) (y 1)

theorem arr3 (f : Fin 24576 → EReal) (h : ∀ t, (dats m 0 c).after 3 t = B3 t f) : (dats m 0 c).arrAt 3 (cfgs 0).N = G3 f := by
  refine (dats m 0 c).arrAt_eq_of_covers 3 _ (by decide +kernel) fun t _ y => ?_
  rw [h]
  blk_simp
  unfold B3 G3
  refine congrArg f (Fin.ext ?_)
  · show 1024 * t.val + (y 1).val = _
    blk_simp [idx t]
    omega

theorem arr4 (f : Fin 256 → Fin 24576 → EReal) (h : ∀ t, (dats m 0 c).after 4 t = B4 t f) : (dats m 0 c).arrAt 4 (cfgs 0).N = G4 f := by
  refine (dats m 0 c).arrAt_eq_of_covers 4 _ (by decide +kernel) fun t _ y => ?_
  rw [h]
  blk_simp
  unfold B4 G4
  refine congrArg₂ f (Fin.ext ?_) (Fin.ext ?_)
  · blk_simp [idx t]
  · show 1024 * t.val + (y 1).val = _
    blk_simp [idx t]
    omega

theorem arr6 (f : Fin 24576 → Fin 256 → EReal) (h : ∀ t, (dats m 0 c).after 6 t = B6 t f) : (dats m 0 c).arrAt 6 (cfgs 0).N = G6 f := by
  refine (dats m 0 c).arrAt_eq_of_covers 6 _ (by decide +kernel) fun t _ y => ?_
  rw [h]
  blk_simp
  unfold B6 G6
  refine congrArg₂ f (Fin.ext ?_) (Fin.ext ?_)
  · show 1024 * t.val + (y 0).val = _
    blk_simp [idx t]
    omega
  · blk_simp [idx t]

theorem arr7 (f : Fin 2 → Fin 24576 → EReal) (h : ∀ t, (dats m 0 c).after 7 t = B7 t f) : (dats m 0 c).arrAt 7 (cfgs 0).N = G7 f := by
  refine (dats m 0 c).arrAt_eq_of_covers 7 _ (by decide +kernel) fun t _ y => ?_
  rw [h]
  blk_simp
  unfold B7 G7
  refine congrArg₂ f (Fin.ext ?_) (Fin.ext ?_)
  · blk_simp [idx t]
  · show 1024 * t.val + (y 1).val = _
    blk_simp [idx t]
    omega

theorem arr5 (f : Fin 256 → Fin 192 → EReal) (h : ∀ t, (dats m 0 c).after 5 t = G5 f) : (dats m 0 c).arrAt 5 (cfgs 0).N = G5 f := by
  refine (dats m 0 c).arrAt_eq_of_covers 5 _ (by decide +kernel) fun t _ y => ?_
  rw [h]
  blk_simp
  unfold G5
  refine congrArg₂ f (Fin.ext ?_) (Fin.ext ?_)
  · blk_simp [idx t]
  · blk_simp [idx t]

theorem G5_intro (f : Fin 256 → Fin 192 → EReal) (z : Vec Ideal S256x192 .f32)
    (h : ∀ (y : S256x192.Idx) (r : Fin 256) (g : Fin 192), r.val = (y 0).val → g.val = (y 1).val → (z y : EReal) = f r g) : z = G5 f := by
  funext y
  exact h y (y 0) (y 1) rfl rfl

theorem rsOut_eq : rsOut m c = G5 (rsK (DK m c)) := by
  refine G5_intro _ _ fun y r g hr hg => ?_
  unfold rsOut rowAt
  refine (rowScaleT_at m c _ _ _ _ _ _).trans ?_
  refine congrArg₂ (rsK (DK m c)) (Fin.ext ?_) (Fin.ext ?_)
  · show 128 * ((y 0).val / 128) + (y 0).val % 128 = r.val
    omega
  · show 8 * ((y 1).val / 8) + (y 1).val % 8 = g.val
    omega

theorem final3 : (dats m 0 c).arrAt 3 (cfgs 0).N = G3 (colSum (DK m c)) := arr3 m c _ fun t => (after0_3 m c t).trans (out3_eq m c t)
theorem final4 : (dats m 0 c).arrAt 4 (cfgs 0).N = G4 (rcK (DK m c)) := arr4 m c _ fun t => (after0_4 m c t).trans (out4_eq m c t)
theorem final5 : (dats m 0 c).arrAt 5 (cfgs 0).N = G5 (rsK (DK m c)) := arr5 m c _ fun t => (after0_5 m c t).trans (rsOut_eq m c)
theorem final6 : (dats m 0 c).arrAt 6 (cfgs 0).N = G6 (ccK (DK m c)) := arr6 m c _ fun t => (after0_6 m c t).trans (out6_eq m c t)
theorem final7 : (dats m 0 c).arrAt 7 (cfgs 0).N = G7 (csK (DK m c)) := arr7 m c _ fun t => (after0_7 m c t).trans (out7_eq m c t)

end Cert.KernelIdeal.Body
-- ==== Proof.KernelRun.lean ====
module

public import proofs.«01_k».proof.Proof.KernelArrays

/-!
# The kernel's results after the run
-/

@[expose] public section
set_option maxRecDepth 16384
noncomputable section
namespace Cert.KernelIdeal.Body
open Cert.KernelIdeal Cert.KernelIdeal.Gen
open Idealize.ShloMosaic Idealize.ShloMosaic.TcCoe Idealize.ShloMosaic.Tactic
open Cert.Scal Cert.Spec

variable (m : (ℓ : Loc nD τ sig) → Buf (Elt Ideal) ℓ) (ρ : Dev nD → PrngReg)

/-- The first and the last result, after the host's reshape and transposition. -/
def H3 (f : Fin 24576 → EReal) : FVec Ideal S24576 .f32 := fun y => f (y 0)
def H7 (f : Fin 2 → Fin 24576 → EReal) : FVec Ideal S24576x2 .f32 := fun y => f (y 1) (y 0)

theorem arr_inj : Function.Injective (Pipeline.arrRef spec0) := by
  exact (by decide : ∀ a b, Pipeline.arrRef spec0 a = Pipeline.arrRef spec0 b → a = b)

theorem reshape3 (f : Fin 24576 → EReal) : shapeCast S24576 (G3 f) shapeCasts_S1x24576_S24576 = H3 f := by
  funext y
  pointwise
  unfold G3 H3
  rfl

theorem transpose7 (f : Fin 2 → Fin 24576 → EReal) : transpose S24576x2 [1, 0] (G7 f) transposes_S2x24576_S24576x2_1_0 = H7 f := by
  funext y
  rfl

theorem tail3 (c : Dev nD) : Pipeline.afterTail₀ cfgs (dats m) 0 (V0 m) [hostOps1] c main_v3 = H3 (colSum (DK m c)) := by
  have e : Pipeline.withArrays spec0 c (V0 m c) (fun w => (dats m 0 c).arrAt w (cfgs 0).N) (Proc.devRef .tc main_v2_0) = G3 (colSum (DK m c)) :=
    (Pipeline.withArrays_arr spec0 arr_inj c (V0 m c) (fun w => (dats m 0 c).arrAt w (cfgs 0).N) 3).trans (final3 m c)
  rw [← reshape3, ← e]
  unfold Pipeline.afterTail₀
  simp only [hostOps1, List.flatten_cons, List.flatten_nil, List.append_nil]
  after_results
  rfl

theorem tail7 (c : Dev nD) : Pipeline.afterTail₀ cfgs (dats m) 0 (V0 m) [hostOps1] c main_v4 = H7 (csK (DK m c)) := by
  have e : Pipeline.withArrays spec0 c (V0 m c) (fun w => (dats m 0 c).arrAt w (cfgs 0).N) (Proc.devRef .tc main_v2_4) = G7 (csK (DK m c)) :=
    (Pipeline.withArrays_arr spec0 arr_inj c (V0 m c) (fun w => (dats m 0 c).arrAt w (cfgs 0).N) 7).trans (final7 m c)
  rw [← transpose7, ← e]
  unfold Pipeline.afterTail₀
  simp only [hostOps1, List.flatten_cons, List.flatten_nil, List.append_nil]
  after_results

/-- The run of the kernel: its five results as functions of the gradient matrix, its arguments unchanged. -/
theorem run_results : θ_run defs (onTc (τ := τ) (main (F := Ideal))) ⟨m, fun _ => 0, ρ⟩ (fun r => ∀ c : Dev nD,
    r.2.mem ((c.tc : Thread nD τ).loc main_v3) = H3 (colSum (DK m c))
    ∧ r.2.mem ((c.tc : Thread nD τ).loc main_v2_1) = G4 (rcK (DK m c))
    ∧ r.2.mem ((c.tc : Thread nD τ).loc main_v2_2) = G5 (rsK (DK m c))
    ∧ r.2.mem ((c.tc : Thread nD τ).loc main_v2_3) = G6 (ccK (DK m c))
    ∧ r.2.mem ((c.tc : Thread nD τ).loc main_v4) = H7 (csK (DK m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨
      (h.1 c |>.2 main_v3 (Pipeline.mem_restRefs_of main_v3 (by decide) (by decide))).trans (tail3 m c),
      (h.1 c |>.1 4).trans (final4 m c),
      (h.1 c |>.1 5).trans (final5 m c),
      (h.1 c |>.1 6).trans (final6 m c),
      (h.1 c |>.2 main_v4 (Pipeline.mem_restRefs_of main_v4 (by decide) (by decide))).trans (tail7 m c),
      (h.1 c |>.1 0).trans (((dats m 0 c).arrAt_in 0 rfl _).trans ((A_eq m c 0).trans (V_main_arg0 m c))),
      (h.1 c |>.1 1).trans (((dats m 0 c).arrAt_in 1 rfl _).trans ((A_eq m c 1).trans (V_main_arg1 m c))),
      (h.1 c |>.2 main_arg2 (Pipeline.mem_restRefs_of main_arg2 (by decide) (by decide))).trans (W_main_arg2 m (dats m) c)⟩) (run_main m ρ)

end Cert.KernelIdeal.Body
-- ==== Proof.RefPayloads.lean ====
module

public import proofs.«01_k».proof.Proof.TileValues
public import proofs.«01_k».proof.Proof.Gen.ReferenceIdeal.Frame

/-!
# What the reference computes, element by element
-/

@[expose] public section
set_option maxRecDepth 16384
noncomputable section
namespace Cert.ReferenceIdeal.Body
open Cert.ReferenceIdeal Cert.ReferenceIdeal.Gen
open Idealize.ShloMosaic Idealize.ShloMosaic.TcCoe Idealize.ShloMosaic.Tactic
open Cert.Scal Cert.Spec
open Cert.KernelIdeal.Body (kR cR select_ite)

theorem named_k : (Named.named (F := Ideal) (φ := .f32) κ "gelu_k" 1061962282#32 : EReal) = (kR : EReal) :=
  IdealRules.named_const.ideal_named_scalar _ _ _ _ rfl
theorem named_c : (Named.named (F := Ideal) (φ := .f32) κ "gelu_c" 1027024659#32 : EReal) = (cR : EReal) :=
  IdealRules.named_const.ideal_named_scalar _ _ _ _ rfl
theorem named_3c : (Named.named (F := Ideal) (φ := .f32) κ "gelu_3c" 1040801103#32 : EReal) = ((3 * cR : ℝ) : EReal) := by
  rw [show (3 * cR : ℝ) = 26829 / 200000 from by unfold cR; norm_num]
  exact IdealRules.named_const.ideal_named_scalar _ _ _ _ rfl

section Pay
variable (g : Vec Ideal S256x24576 .bf16) (q : Vec Ideal S256x24576 .fp8e4m3) (s : Vec Ideal S256x192 .f32)

/-- The gradient matrix as the reference computes it. -/
def DRm (r : Fin 256) (y : Fin 24576) : EReal :=
  dR kR cR ((3 * cR : ℝ) : EReal) (g (ix2 r y)) (q (ix2 r y) * s (ix2 r (grp y)))

theorem pay4_at (r : Fin 256) (y : Fin 24576) : (k0_pay4 g q s (ix2 r y) : EReal) = DRm g q s r y := by
  pointwise [k0_pay4]
  rw [named_k, named_c, named_3c, ofBits_half]
  rfl

theorem pay5_at (y : Fin 24576) : (k0_pay5 g q s (ix1 y) : EReal) = ∑ r : Fin 256, DRm g q s r y := by
  refine Eq.trans ?_ (Finset.sum_congr rfl fun r _ => pay4_at g q s r y)
  pointwise [k0_pay5]

theorem pay6_at (r : Fin 256) (y : Fin 192) (l : Fin 128) : (k0_pay6 g q s (ix3 r y l) : EReal) = DRm g q s r (gcol y l) := by
  refine Eq.trans ?_ (pay4_at g q s r (gcol y l))
  pointwise [k0_pay6]
  rw [show (⟨y.val * 128 + l.val, by omega⟩ : Fin 24576) = gcol y l from Fin.ext (by simp only [gcol]; omega)]
end Pay

/-- The exponent on a whole vector. -/
def expV {S : Shape} (w : FVec Ideal S .f32) : FVec Ideal S .f32 :=
  select (cmpf .olt w (broadcast S (Scalar.ofBits .f32 0x00800000#32))) (broadcast S (Scalar.ofBits .f32 0x00000000#32))
    (addf (floor (divf (log w) (log (broadcast S (Scalar.ofBits .f32 0x40000000#32))))) (broadcast S (Scalar.ofBits .f32 0x3F800000#32)))

theorem ofBits_zero : Ideal.ofBits .f32 0#32 = 0 := by
  simp [Ideal.ofBits, Ideal.ieee]

theorem expV_at {S : Shape} (w : FVec Ideal S .f32) (i : S.Idx) : (expV w i : EReal) = expR (w i) := by
  have e : (expV w i : EReal) = Scalar.select (BitVec.ofBool (decide ((w i : EReal) < Ideal.ofBits .f32 8388608#32))) (Ideal.ofBits .f32 0#32)
    (Ideal.liftRound Int.floor (Ideal.div (Ideal.log (w i)) (Ideal.log (Ideal.ofBits .f32 1073741824#32))) + Ideal.ofBits .f32 1065353216#32) := rfl
  rw [e, ofBits_min, ofBits_zero, ofBits_two, ofBits_one, select_ite]
  rfl

theorem exp2_at {S : Shape} (z : FVec Ideal S .f32) (i : S.Idx) : (exp2 z i : EReal) = Ideal.exp2 (z i) := rfl

/-- A whole vector of magnitudes, scaled. -/
def sclV {S : Shape} (w : FVec Ideal S .f32) : FVec Ideal S .f32 := mulf w (broadcast S (Scalar.ofBits .f32 0x37924925#32))

theorem sclV_at {S : Shape} (w : FVec Ideal S .f32) (i : S.Idx) : (sclV w i : EReal) = w i * (r57 : EReal) := by
  rw [← ofBits_r57]; rfl

/-- The largest magnitudes along a row group. -/
def rowAmax (v : FVec Ideal S256x192x128 .f32) : FVec Ideal S256x192 .f32 :=
  multiReduction .maximumf [2] S256x192 (absf v) 0xFF800000#32 reduces_S256x192x128_S256x192 (.inl rfl) rfl
/-- The largest magnitudes along a column group. -/
def colAmax (v : FVec Ideal S2x128x24576 .f32) : FVec Ideal S2x24576 .f32 :=
  multiReduction .maximumf [1] S2x24576 (absf v) 0xFF800000#32 reduces_S2x128x24576_S2x24576 (.inl rfl) rfl

theorem rowAmax_at (v : FVec Ideal S256x192x128 .f32) (r : Fin 256) (y : Fin 192) : (rowAmax v (ix2 r y) : EReal) =
    Finset.fold max (⊥ : EReal) (fun x : Fin 128 => (FloatOps.absf (F := Ideal) (φ := .f32) (v (ix3 r y x)) : EReal)) Finset.univ := by
  pointwise [rowAmax]
  rw [ofBits_bot]

theorem colAmax_at (v : FVec Ideal S2x128x24576 .f32) (b : Fin 2) (y : Fin 24576) : (colAmax v (ix2 b y) : EReal) =
    Finset.fold max (⊥ : EReal) (fun x : Fin 128 => (FloatOps.absf (F := Ideal) (φ := .f32) (v (ix3 b x y)) : EReal)) Finset.univ := by
  pointwise [colAmax]
  rw [ofBits_bot]

theorem pay7_eq (v : FVec Ideal S256x192x128 .f32) : k0_pay7 v = expV (sclV (rowAmax v)) := rfl
theorem pay9_eq (v : FVec Ideal S256x192x128 .f32) : k0_pay9 v = exp2 (k0_pay7 v) := rfl

/-- The clipped matrix, of the exponents of its row groups. -/
def mat8 (v : FVec Ideal S256x192x128 .f32) (z : FVec Ideal S256x192 .f32) : FVec Ideal S256x24576 .fp8e5m2 :=
  truncf .fp8e5m2 (shapeCast S256x24576 (minimumf (broadcast S256x192x128 (Scalar.ofBits .f32 0x47600000#32))
    (maximumf (broadcast S256x192x128 (Scalar.ofBits .f32 0xC7600000#32))
      (mulf v (broadcastTo S256x192x128 (shapeCast S256x192x1 (exp2 (subf (broadcast S256x192 (Scalar.ofBits .f32 0x00000000#32)) z)) shapeCasts_S256x192_S256x192x1) broadcasts_S256x192x1_S256x192x128))))
    shapeCasts_S256x192x128_S256x24576) bitsLt_fp8e5m2_f32

theorem mat8_at (v : FVec Ideal S256x192x128 .f32) (z : FVec Ideal S256x192 .f32) (r : Fin 256) (y : Fin 24576) :
    (mat8 v z (ix2 r y) : EReal) = clip ((v (ix3 r (grp y) ⟨y.val % 128, by omega⟩) : EReal) * Ideal.exp2 (0 - z (ix2 r (grp y)))) := by
  pointwise [mat8]
  rfl

theorem pay8_eq (v : FVec Ideal S256x192x128 .f32) : k0_pay8 v = mat8 v (k0_pay7 v) := rfl

theorem pay10_at (v : FVec Ideal S256x24576 .f32) (b : Fin 2) (k : Fin 128) (y : Fin 24576) :
    (k0_pay10 v (ix3 b k y) : EReal) = v (ix2 (brow b k) y) := by
  pointwise [k0_pay10]
  rw [show (⟨b.val * 128 + k.val, by omega⟩ : Fin 256) = brow b k from Fin.ext (by simp only [brow]; omega)]

theorem pay11_eq (v : FVec Ideal S256x24576 .f32) : k0_pay11 v = sclV (colAmax (k0_pay10 v)) := rfl
theorem pay1_eq (v : FVec Ideal S256x24576 .f32) : k0_pay1 (k0_pay11 v) (k0_pay12 v) k0_pay13 = expV (k0_pay11 v) := rfl

theorem pay2_at (u : FVec Ideal S2x128x24576 .f32) (p q s : FVec Ideal S2x24576 .f32) (y : Fin 24576) (r : Fin 256) :
    (k0_pay2 u p q s (ix2 y r) : EReal) = clip ((u (ix3 (blk r) ⟨r.val % 128, by omega⟩ y) : EReal) * Ideal.exp2 (0 - k0_pay1 p q s (ix2 (blk r) y))) := by
  unfold k0_pay2
  generalize k0_pay1 p q s = z
  pointwise
  rfl

theorem pay3_at (p q s : FVec Ideal S2x24576 .f32) (y : Fin 24576) (b : Fin 2) :
    (k0_pay3 p q s (ix2 y b) : EReal) = Ideal.exp2 (k0_pay1 p q s (ix2 b y)) := by
  unfold k0_pay3
  generalize k0_pay1 p q s = z
  pointwise
  rfl

/-! ## The five results, of the gradient matrix -/

section Results
variable (g : Vec Ideal S256x24576 .bf16) (q : Vec Ideal S256x24576 .fp8e4m3) (s : Vec Ideal S256x192 .f32)

theorem rowAmax_D (r : Fin 256) (y : Fin 192) : (rowAmax (k0_pay6 g q s) (ix2 r y) : EReal) = rowMax (DRm g q s) r y := by
  rw [rowAmax_at]
  unfold rowMax
  congr 1
  funext x
  rw [pay6_at]

theorem colAmax_D (b : Fin 2) (y : Fin 24576) : (colAmax (k0_pay10 (k0_pay4 g q s)) (ix2 b y) : EReal) = colMax (DRm g q s) b y := by
  rw [colAmax_at]
  unfold colMax
  congr 1
  funext x
  rw [pay10_at, pay4_at]

theorem res3_at (y : Fin 24576) : (k0_pay5 g q s (ix1 y) : EReal) = colSum (DRm g q s) y := by
  rw [pay5_at, Fin.sum_univ_two_halves 128 128 rfl]
  unfold colSum
  refine congrArg₂ _ (Finset.sum_congr rfl fun k _ => ?_) (Finset.sum_congr rfl fun k _ => ?_)
  · rw [show (⟨k.val, by omega⟩ : Fin 256) = brow 0 k from Fin.ext (by simp [brow])]
  · rw [show (⟨128 + k.val, by omega⟩ : Fin 256) = brow 1 k from Fin.ext (by simp [brow])]

theorem rowExp_at (r : Fin 256) (y : Fin 192) : (k0_pay7 (k0_pay6 g q s) (ix2 r y) : EReal) = expR (rowMax (DRm g q s) r y * (r57 : EReal)) := by
  rw [pay7_eq, expV_at, sclV_at, rowAmax_D]

theorem colExp_at (b : Fin 2) (y : Fin 24576) :
    (k0_pay1 (k0_pay11 (k0_pay4 g q s)) (k0_pay12 (k0_pay4 g q s)) k0_pay13 (ix2 b y) : EReal) = expR (colMax (DRm g q s) b y * (r57 : EReal)) := by
  rw [pay1_eq, expV_at, pay11_eq, sclV_at, colAmax_D]

theorem res4_at (r : Fin 256) (y : Fin 24576) : (k0_pay8 (k0_pay6 g q s) (ix2 r y) : EReal) = rcR (DRm g q s) r y := by
  rw [pay8_eq, mat8_at, rowExp_at, pay6_at, show gcol (grp y) ⟨y.val % 128, by omega⟩ = y from Fin.ext (by simp only [gcol, grp]; omega)]
  rfl

theorem res5_at (r : Fin 256) (y : Fin 192) : (k0_pay9 (k0_pay6 g q s) (ix2 r y) : EReal) = rsR (DRm g q s) r y := by
  rw [pay9_eq, exp2_at, rowExp_at]
  rfl

theorem res6_at (y : Fin 24576) (r : Fin 256) :
    (k0_pay2 (k0_pay10 (k0_pay4 g q s)) (k0_pay11 (k0_pay4 g q s)) (k0_pay12 (k0_pay4 g q s)) k0_pay13 (ix2 y r) : EReal) = ccR (DRm g q s) y r := by
  rw [pay2_at, colExp_at, pay10_at, pay4_at, show brow (blk r) ⟨r.val % 128, by omega⟩ = r from Fin.ext (by simp only [brow, blk]; omega)]
  rfl

theorem res7_at (y : Fin 24576) (b : Fin 2) :
    (k0_pay3 (k0_pay11 (k0_pay4 g q s)) (k0_pay12 (k0_pay4 g q s)) k0_pay13 (ix2 y b) : EReal) = csR (DRm g q s) b y := by
  rw [pay3_at, colExp_at]
  rfl
end Results

end Cert.ReferenceIdeal.Body
-- ==== Proof.ReferenceRun.lean ====
module

public import proofs.«01_k».proof.Proof.RefPayloads
public import Idealize.ShloMosaic.Lib.Pipeline.ValueKit

/-!
# The reference's whole arrays after the run
-/

@[expose] public section
set_option maxRecDepth 16384
noncomputable section
namespace Cert.ReferenceIdeal.Body
open Cert.ReferenceIdeal Cert.ReferenceIdeal.Gen
open Idealize.ShloMosaic Idealize.ShloMosaic.TcCoe Idealize.ShloMosaic.Tactic
open Cert.Scal Cert.Spec

variable (m : (ℓ : Loc nD τ sig) → Buf (Elt Ideal) ℓ) (ρ : Dev nD → PrngReg)

/-- The arguments. -/
def A0 (c : Dev nD) : FVec Ideal S256x24576 .bf16 := m ((c : Thread nD τ).loc main_arg0)
def A1 (c : Dev nD) : FVec Ideal S256x24576 .fp8e4m3 := m ((c : Thread nD τ).loc main_arg1)
def A2 (c : Dev nD) : FVec Ideal S256x192 .f32 := m ((c : Thread nD τ).loc main_arg2)

/-- The gradient matrix as the reference computes it. -/
def DR (c : Dev nD) : Fin 256 → Fin 24576 → EReal := DRm (A0 m c) (A1 m c) (A2 m c)

theorem idx : win0_0.index t0_0 = ![0, 0] ∧ win0_1.index t0_0 = ![0, 0] ∧ win0_2.index t0_0 = ![0, 0] ∧
    win0_3.index t0_0 = ![0] ∧ win0_4.index t0_0 = ![0, 0] ∧ win0_5.index t0_0 = ![0, 0] ∧ win0_6.index t0_0 = ![0, 0] ∧
    win0_7.index t0_0 = ![0, 0] := by decide +kernel

theorem iblk0_eq (c : Dev nD) : (iblk m c 0 t0_0 : Vec Ideal S256x24576 .bf16) = A0 m c := by
  unfold A0
  rw [← V_main_arg0 m c]
  funext j
  idx_vars j
  blk_ext [iblk, idx]
theorem iblk1_eq (c : Dev nD) : (iblk m c 1 t0_0 : Vec Ideal S256x24576 .fp8e4m3) = A1 m c := by
  unfold A1
  rw [← V_main_arg1 m c]
  funext j
  idx_vars j
  blk_ext [iblk, idx]
theorem iblk2_eq (c : Dev nD) : (iblk m c 2 t0_0 : Vec Ideal S256x192 .f32) = A2 m c := by
  unfold A2
  rw [← V_main_arg2 m c]
  funext j
  idx_vars j
  blk_ext [iblk, idx]

theorem ld0 (x : Vec Ideal S256x24576 .bf16) : View.ld x r0_0 = x := by
  funext j
  idx_vars j
  simp only [View.ld]
  blk_ext
  · show 0 + 1 * j0.val = _; omega
  · show 0 + 1 * j1.val = _; omega
theorem ld1 (x : Vec Ideal S256x24576 .fp8e4m3) : View.ld x r0_0 = x := by
  funext j
  idx_vars j
  simp only [View.ld]
  blk_ext
  · show 0 + 1 * j0.val = _; omega
  · show 0 + 1 * j1.val = _; omega
theorem ld2 (x : Vec Ideal S256x192 .f32) : View.ld x r0_1 = x := by
  funext j
  idx_vars j
  simp only [View.ld]
  blk_ext
  · show 0 + 1 * j0.val = _; omega
  · show 0 + 1 * j1.val = _; omega

section Out
variable (g : Vec Ideal S256x24576 .bf16) (q : Vec Ideal S256x24576 .fp8e4m3) (s : Vec Ideal S256x192 .f32)

theorem pay14_eq : k0_pay14 g q s = k0_pay4 g q s := by unfold k0_pay14; rw [ld0, ld1, ld2]
theorem pay15_eq : k0_pay15 g q s = k0_pay6 g q s := by unfold k0_pay15; rw [ld0, ld1, ld2]
theorem pay16_eq : k0_pay16 g q s = k0_pay11 (k0_pay4 g q s) := by unfold k0_pay16; rw [pay14_eq]
theorem pay17_eq : k0_pay17 g q s = k0_pay12 (k0_pay4 g q s) := by unfold k0_pay17; rw [pay14_eq]
theorem pay18_eq : k0_pay18 g q s = k0_pay13 := rfl

theorem out3_at (y : Fin 24576) : (out0_3 g q s (ix1 y) : EReal) = colSum (DRm g q s) y := by
  rw [← res3_at]
  unfold out0_3
  rw [ld0, ld1, ld2]
  generalize k0_pay5 g q s = z
  frame_out
theorem out4_at (r : Fin 256) (y : Fin 24576) : (out0_4 g q s (ix2 r y) : EReal) = rcR (DRm g q s) r y := by
  rw [← res4_at]
  unfold out0_4
  rw [pay15_eq]
  generalize k0_pay8 (F := Ideal) _ = z
  frame_out
theorem out5_at (r : Fin 256) (y : Fin 192) : (out0_5 g q s (ix2 r y) : EReal) = rsR (DRm g q s) r y := by
  rw [← res5_at]
  unfold out0_5
  rw [pay15_eq]
  generalize k0_pay9 (F := Ideal) _ = z
  frame_out
theorem out6_at (y : Fin 24576) (r : Fin 256) : (out0_6 g q s (ix2 y r) : EReal) = ccR (DRm g q s) y r := by
  rw [← res6_at]
  unfold out0_6
  rw [pay14_eq, pay16_eq, pay17_eq, pay18_eq]
  generalize k0_pay2 (F := Ideal) _ _ _ _ = z
  frame_out
theorem out7_at (y : Fin 24576) (b : Fin 2) : (out0_7 g q s (ix2 y b) : EReal) = csR (DRm g q s) b y := by
  rw [← res7_at]
  unfold out0_7
  rw [pay16_eq, pay17_eq, pay18_eq]
  generalize k0_pay3 (F := Ideal) _ _ _ = z
  frame_out
end Out

/-- The whole arrays, of a function of the coordinates. -/
def G3 (f : Fin 24576 → EReal) : FVec Ideal S24576 .f32 := fun y => f (y 0)
def G4 (f : Fin 256 → Fin 24576 → EReal) : FVec Ideal S256x24576 .fp8e5m2 := fun y => f (y 0) (y 1)
def G5 (f : Fin 256 → Fin 192 → EReal) : FVec Ideal S256x192 .f32 := fun y => f (y 0) (y 1)
def G6 (f : Fin 24576 → Fin 256 → EReal) : FVec Ideal S24576x256 .fp8e5m2 := fun y => f (y 0) (y 1)
def G7 (f : Fin 2 → Fin 24576 → EReal) : FVec Ideal S24576x2 .f32 := fun y => f (y 1) (y 0)

section Arr
variable (c : Dev nD)

theorem arr3 (f : Fin 24576 → EReal) (z : Vec Ideal S24576 .f32) (hz : ∀ y, (z (ix1 y) : EReal) = f y)
    (h : (dats m 0 c).after 3 t0_0 = z) : (dats m 0 c).arrAt 3 (cfgs 0).N = G3 f := by
  refine (dats m 0 c).arrAt_eq_of_after_last 3 t0_0 (by decide +kernel) _ fun j => ?_
  blk_simp
  rw [h]
  idx_vars j
  exact hz _
theorem arr4 (f : Fin 256 → Fin 24576 → EReal) (z : Vec Ideal S256x24576 .fp8e5m2) (hz : ∀ r y, (z (ix2 r y) : EReal) = f r y)
    (h : (dats m 0 c).after 4 t0_0 = z) : (dats m 0 c).arrAt 4 (cfgs 0).N = G4 f := by
  refine (dats m 0 c).arrAt_eq_of_after_last 4 t0_0 (by decide +kernel) _ fun j => ?_
  blk_simp
  rw [h]
  idx_vars j
  exact hz _ _
theorem arr5 (f : Fin 256 → Fin 192 → EReal) (z : Vec Ideal S256x192 .f32) (hz : ∀ r y, (z (ix2 r y) : EReal) = f r y)
    (h : (dats m 0 c).after 5 t0_0 = z) : (dats m 0 c).arrAt 5 (cfgs 0).N = G5 f := by
  refine (dats m 0 c).arrAt_eq_of_after_last 5 t0_0 (by decide +kernel) _ fun j => ?_
  blk_simp
  rw [h]
  idx_vars j
  exact hz _ _
theorem arr6 (f : Fin 24576 → Fin 256 → EReal) (z : Vec Ideal S24576x256 .fp8e5m2) (hz : ∀ y r, (z (ix2 y r) : EReal) = f y r)
    (h : (dats m 0 c).after 6 t0_0 = z) : (dats m 0 c).arrAt 6 (cfgs 0).N = G6 f := by
  refine (dats m 0 c).arrAt_eq_of_after_last 6 t0_0 (by decide +kernel) _ fun j => ?_
  blk_simp
  rw [h]
  idx_vars j
  exact hz _ _
theorem arr7 (f : Fin 2 → Fin 24576 → EReal) (z : Vec Ideal S24576x2 .f32) (hz : ∀ y b, (z (ix2 y b) : EReal) = f b y)
    (h : (dats m 0 c).after 7 t0_0 = z) : (dats m 0 c).arrAt 7 (cfgs 0).N = G7 f := by
  refine (dats m 0 c).arrAt_eq_of_after_last 7 t0_0 (by decide +kernel) _ fun j => ?_
  blk_simp
  rw [h]
  idx_vars j
  exact hz _ _

theorem final3 : (dats m 0 c).arrAt 3 (cfgs 0).N = G3 (colSum (DR m c)) :=
  arr3 m c _ _ (out3_at (A0 m c) (A1 m c) (A2 m c)) (by rw [after0_3, iblk0_eq, iblk1_eq, iblk2_eq])
theorem final4 : (dats m 0 c).arrAt 4 (cfgs 0).N = G4 (rcR (DR m c)) :=
  arr4 m c _ _ (out4_at (A0 m c) (A1 m c) (A2 m c)) (by rw [after0_4, iblk0_eq, iblk1_eq, iblk2_eq])
theorem final5 : (dats m 0 c).arrAt 5 (cfgs 0).N = G5 (rsR (DR m c)) :=
  arr5 m c _ _ (out5_at (A0 m c) (A1 m c) (A2 m c)) (by rw [after0_5, iblk0_eq, iblk1_eq, iblk2_eq])
theorem final6 : (dats m 0 c).arrAt 6 (cfgs 0).N = G6 (ccR (DR m c)) :=
  arr6 m c _ _ (out6_at (A0 m c) (A1 m c) (A2 m c)) (by rw [after0_6, iblk0_eq, iblk1_eq, iblk2_eq])
theorem final7 : (dats m 0 c).arrAt 7 (cfgs 0).N = G7 (csR (DR m c)) :=
  arr7 m c _ _ (out7_at (A0 m c) (A1 m c) (A2 m c)) (by rw [after0_7, iblk0_eq, iblk1_eq, iblk2_eq])
end Arr

/-- The run of the reference: its five results as functions of the gradient matrix, its arguments unchanged. -/
theorem run_results : θ_run defs (onTc (τ := τ) (main (F := Ideal))) ⟨m, fun _ => 0, ρ⟩ (fun r => ∀ c : Dev nD,
    r.2.mem ((c.tc : Thread nD τ).loc main_v0_0) = G3 (colSum (DR m c))
    ∧ r.2.mem ((c.tc : Thread nD τ).loc main_v0_1) = G4 (rcR (DR m c))
    ∧ r.2.mem ((c.tc : Thread nD τ).loc main_v0_2) = G5 (rsR (DR m c))
    ∧ r.2.mem ((c.tc : Thread nD τ).loc main_v0_3) = G6 (ccR (DR m c))
    ∧ r.2.mem ((c.tc : Thread nD τ).loc main_v0_4) = G7 (csR (DR m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨(h c |>.1 3).trans (final3 m c), (h c |>.1 4).trans (final4 m c),
      (h c |>.1 5).trans (final5 m c), (h c |>.1 6).trans (final6 m c), (h c |>.1 7).trans (final7 m c),
      (h c |>.1 0).trans (((dats m 0 c).arrAt_in 0 rfl _).trans ((A_eq m c 0).trans (V_main_arg0 m c))),
      (h c |>.1 1).trans (((dats m 0 c).arrAt_in 1 rfl _).trans ((A_eq m c 1).trans (V_main_arg1 m c))),
      (h c |>.1 2).trans (((dats m 0 c).arrAt_in 2 rfl _).trans ((A_eq m c 2).trans (V_main_arg2 m c)))⟩) (run_main m ρ)

end Cert.ReferenceIdeal.Body
-- ==== Proof.FiniteGrad.lean ====
module

public import proofs.«01_k».proof.Pre_finite_grad
public import proofs.«01_k».proof.Proof.Scalar
public import Idealize.ShloMosaic.Lib.ReduceAll

/-!
# What the precondition says of an element of the incoming gradient
-/

@[expose] public section
noncomputable section
namespace Cert.Pre_finite_grad
open Idealize.ShloMosaic Cert.Scal

theorem ofBits_max : Ideal.ofBits .bf16 32639#16 = ((255 * (2 : ℝ) ^ (120 : ℤ) : ℝ) : EReal) := by
  simp [Ideal.ofBits, Ideal.ieee, -EReal.coe_mul]

instance : Subsingleton S_.Idx := ⟨fun a b => funext fun i => i.elim0⟩

theorem real_of_le (x : EReal) (M : ℝ) (h : max x (-x) ≤ (M : EReal)) : ∃ g : ℝ, x = (g : EReal) ∧ |g| ≤ M := by
  induction x with
  | bot => simp at h
  | top => simp at h
  | coe g =>
    refine ⟨g, rfl, ?_⟩
    have h1 := (le_max_left _ _).trans h
    have h2 := (le_max_right _ _).trans h
    rw [← EReal.coe_neg] at h2
    exact abs_le'.mpr ⟨EReal.coe_le_coe_iff.mp h1, EReal.coe_le_coe_iff.mp h2⟩

theorem finite_at [Facts] (a0 : FVec Ideal S256x24576 .bf16) (a1 : FVec Ideal S256x24576 .fp8e4m3) (a2 : FVec Ideal S256x192 .f32)
    (j : S_.Idx) (h : fn (F := Ideal) a0 a1 a2 j = 1#1) (i : S256x24576.Idx) :
    ∃ g : ℝ, (a0 i : EReal) = (g : EReal) ∧ |g| ≤ (2 : ℝ) ^ (128 : ℤ) := by
  have e := Host.reduce_andi_all _ _ _ _ j h i
  have e2 : BitVec.ofBool (decide (max (a0 i : EReal) (-(a0 i : EReal)) ≤ Ideal.ofBits .bf16 32639#16)) = 1#1 := by
    refine Eq.trans ?_ e
    rfl
  have e3 : max (a0 i : EReal) (-(a0 i : EReal)) ≤ Ideal.ofBits .bf16 32639#16 := by
    by_contra hn
    simp [hn] at e2
  rw [ofBits_max] at e3
  obtain ⟨g, hg, hb⟩ := real_of_le _ _ e3
  refine ⟨g, hg, hb.trans ?_⟩
  norm_num

end Cert.Pre_finite_grad
-- ==== Proof.Algebraic.lean ====
module

public import proofs.«01_k».proof.Defs
public import proofs.«01_k».proof.Proof.Gen.Pre_finite_grad
public import proofs.«01_k».proof.Proof.KernelRun
public import proofs.«01_k».proof.Proof.ReferenceRun
public import proofs.«01_k».proof.Proof.FiniteGrad

/-!
# The kernel and the reference end with equal results
-/

@[expose] public section
noncomputable section
namespace Cert.Algebraic
open Idealize.ShloMosaic Idealize.ShloMosaic.TcCoe Idealize.SL.Sem
open Cert.Scal Cert.Spec
open Cert.KernelIdeal.Body (kR cR DK H3 H7)
open Cert.ReferenceIdeal.Body (DR DRm)

theorem kR_pos : 0 < kR := Real.sqrt_pos.mpr (mul_pos (by norm_num) (inv_pos.mpr Real.pi_pos))
theorem cR_pos : 0 < cR := by unfold cR; norm_num

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Under the precondition every element of the gradient is one bounded real number, however it is grouped. -/
theorem grad_at (hp : ∀ r y, ∃ g : ℝ, (Cert.KernelIdeal.Body.A0 m c (ix2 r y) : EReal) = (g : EReal) ∧ |g| ≤ (2 : ℝ) ^ (128 : ℤ))
    (r : Fin 256) (y : Fin 24576) :
    ∃ d : ℝ, DK m c r y = (d : EReal) ∧
      DRm (Cert.KernelIdeal.Body.A0 m c) (Cert.KernelIdeal.Body.A1 m c) (Cert.KernelIdeal.Body.A2 m c) r y = (d : EReal) ∧
      |d| ≤ 4 * (2 : ℝ) ^ (128 : ℤ) := by
  obtain ⟨g, hg, hb⟩ := hp r y
  obtain ⟨d, h1, h2, h3⟩ := grad_eq kR cR g kR_pos cR_pos (Cert.KernelIdeal.Body.A1 m c (ix2 r y) * Cert.KernelIdeal.Body.A2 m c (ix2 r (grp y)))
  refine ⟨d, ?_, ?_, h3.trans (mul_le_mul_of_nonneg_left hb (by norm_num))⟩
  · unfold DK; rw [hg]; exact h1
  · unfold DRm; rw [hg]; exact h2

theorem grad_mat (hp : ∀ r y, ∃ g : ℝ, (Cert.KernelIdeal.Body.A0 m c (ix2 r y) : EReal) = (g : EReal) ∧ |g| ≤ (2 : ℝ) ^ (128 : ℤ)) :
    DRm (Cert.KernelIdeal.Body.A0 m c) (Cert.KernelIdeal.Body.A1 m c) (Cert.KernelIdeal.Body.A2 m c) = DK m c := by
  funext r y
  obtain ⟨d, h1, h2, _⟩ := grad_at m c hp r y
  rw [h1, h2]

theorem grad_real (hp : ∀ r y, ∃ g : ℝ, (Cert.KernelIdeal.Body.A0 m c (ix2 r y) : EReal) = (g : EReal) ∧ |g| ≤ (2 : ℝ) ^ (128 : ℤ)) :
    ∀ r y, ∃ d : ℝ, DK m c r y = (d : EReal) ∧ |d| ≤ 4 * (2 : ℝ) ^ (128 : ℤ) := fun r y =>
  (grad_at m c hp r y).imp fun _ h => ⟨h.1, h.2.2⟩

/-! The reference's results of a gradient matrix are the kernel's. -/
section Mat
variable {D : Fin 256 → Fin 24576 → EReal} (hD : ∀ r y, ∃ d : ℝ, D r y = (d : EReal) ∧ |d| ≤ 4 * (2 : ℝ) ^ (128 : ℤ))
include hD
theorem rc_mat : rcR D = rcK D := funext fun r => funext fun y => (rc_eq hD r y).symm
theorem rs_mat : rsR D = rsK D := funext fun r => funext fun g => (rs_eq hD r g).symm
theorem cc_mat : ccR D = ccK D := funext fun y => funext fun r => (cc_eq hD y r).symm
theorem cs_mat : csR D = csK D := funext fun b => funext fun y => (cs_eq hD b y).symm
end Mat

theorem g3_eq (f : Fin 24576 → EReal) : (Cert.ReferenceIdeal.Body.G3 f) = H3 f := rfl
theorem g4_eq (f : Fin 256 → Fin 24576 → EReal) : Cert.ReferenceIdeal.Body.G4 f = Cert.KernelIdeal.Body.G4 f := rfl
theorem g5_eq (f : Fin 256 → Fin 192 → EReal) : Cert.ReferenceIdeal.Body.G5 f = Cert.KernelIdeal.Body.G5 f := rfl
theorem g6_eq (f : Fin 24576 → Fin 256 → EReal) : Cert.ReferenceIdeal.Body.G6 f = Cert.KernelIdeal.Body.G6 f := rfl
theorem g7_eq (f : Fin 2 → Fin 24576 → EReal) : Cert.ReferenceIdeal.Body.G7 f = H7 f := rfl

theorem algebraic : Cert.algebraic_KernelIdeal_ReferenceIdeal_pre_finite_grad := by
  intro m g m' g' hpre hm
  have hp : ∀ c r y, ∃ g : ℝ, (Cert.KernelIdeal.Body.A0 m c (ix2 r y) : EReal) = (g : EReal) ∧ |g| ≤ (2 : ℝ) ^ (128 : ℤ) := fun c r y =>
    Cert.Pre_finite_grad.finite_at _ _ _ (fun i => i.elim0) (congrFun (hpre c) _) (ix2 r y)
  have hDR : ∀ c, DR m' c = DK m c := fun c => by
    rw [← grad_mat m c (hp c)]
    unfold DR
    rw [show Cert.ReferenceIdeal.Body.A0 m' c = Cert.KernelIdeal.Body.A0 m c from (hm c).1,
      show Cert.ReferenceIdeal.Body.A1 m' c = Cert.KernelIdeal.Body.A1 m c from (hm c).2.1,
      show Cert.ReferenceIdeal.Body.A2 m' c = Cert.KernelIdeal.Body.A2 m c from (hm c).2.2]
  refine ⟨fun c => H3 (colSum (DK m c)), fun c => Cert.KernelIdeal.Body.G4 (rcK (DK m c)), fun c => Cert.KernelIdeal.Body.G5 (rsK (DK m c)),
    fun c => Cert.KernelIdeal.Body.G6 (ccK (DK m c)), fun c => H7 (csK (DK m c)), Cert.KernelIdeal.Body.run_results m g, ?_⟩
  refine (θ_run _ _ _).mono (fun _ h c => ?_) (Cert.ReferenceIdeal.Body.run_results m' g')
  obtain ⟨h3, h4, h5, h6, h7, ha⟩ := h c
  have hD := grad_real m c (hp c)
  refine ⟨h3.trans ?_, h4.trans ?_, h5.trans ?_, h6.trans ?_, h7.trans ?_, ha⟩
  · rw [hDR c]; exact g3_eq _
  · rw [hDR c, rc_mat hD]; exact g4_eq _
  · rw [hDR c, rs_mat hD]; exact g5_eq _
  · rw [hDR c, cc_mat hD]; exact g6_eq _
  · rw [hDR c, cs_mat hD]; exact g7_eq _

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_finite_grad
public import proofs.«01_k».proof.Proof.FrameKernel
public import proofs.«01_k».proof.Proof.FrameKernelIdeal
public import proofs.«01_k».proof.Proof.Algebraic
public import Idealize.ShloMosaic.PureOps.IdealRules
public import Idealize.ShloMosaic.Adequacy
public import Idealize.ShloMosaic.Init

@[expose] public section

noncomputable section

namespace Cert.Proof

open Idealize.ShloMosaic Idealize.SL.Sem Cert.Kernel

theorem preserves_P : Cert.preserves_Kernel_KernelIdeal :=
  ⟨IdealRules.named_const.statement Cert.KernelIdeal.κ "gelu_kc" .f32 0x3D122279#32 _ rfl,
    IdealRules.named_const.statement Cert.KernelIdeal.κ "gelu_k" .f32 0x3F4C422A#32 _ rfl⟩

theorem preserves_R : Cert.preserves_Reference_ReferenceIdeal :=
  ⟨IdealRules.named_const.statement Cert.ReferenceIdeal.κ "gelu_k" .f32 0x3F4C422A#32 _ rfl,
    IdealRules.named_const.statement Cert.ReferenceIdeal.κ "gelu_c" .f32 0x3D372713#32 _ rfl,
    IdealRules.named_const.statement Cert.ReferenceIdeal.κ "gelu_3c" .f32 0x3E095D4F#32 _ rfl⟩

theorem claim : Cert.Claim := ⟨Cert.Kernel.Gen.facts, Cert.KernelIdeal.Gen.facts, Cert.ReferenceIdeal.Gen.facts, Cert.Reference.Gen.facts,
  Cert.Pre_finite_grad.Gen.facts,
  fun m ρ _ => Cert.Kernel.FrameProof.frame m ρ, fun m ρ _ => Cert.KernelIdeal.FrameProof.frame m ρ,
  fun m ρ _ => Cert.KernelIdeal.FrameProof.frame m ρ, fun m ρ _ => Cert.ReferenceIdeal.Gen.frame m ρ,
  fun m ρ _ => Cert.ReferenceIdeal.Gen.frame m ρ, fun m ρ _ => Cert.Reference.Gen.frame m ρ, preserves_P, preserves_R,
  Cert.Algebraic.algebraic⟩

end Cert.Proof

end
